-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "score_log2e" .f32 0x3E16C740#32 (((Real.sqrt 96)⁻¹ * (Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x3072x24x96 : Shape := ⟨4, ![2, 3072, 24, 96]⟩
abbrev S2x3072x24x3 : Shape := ⟨4, ![2, 3072, 24, 3]⟩
abbrev S24x40x96 : Shape := ⟨3, ![24, 40, 96]⟩
abbrev S_ : Shape := ⟨0, ![]⟩

class Facts : Prop where
  natLt_8_32 : 8 < 32
  bcast_S_S2x3072x24x96 : S_.BroadcastsInDim S2x3072x24x96 (![] : Fin 0 → Fin S2x3072x24x96.rank)
  reducesTo_S2x3072x24x96_S_d0_1_2_3 : S2x3072x24x96.ReducesTo [0, 1, 2, 3] S_
  h_S_ : 0 < S_.numel
  bcast_S_S2x3072x24x3 : S_.BroadcastsInDim S2x3072x24x3 (![] : Fin 0 → Fin S2x3072x24x3.rank)
  reducesTo_S2x3072x24x3_S_d0_1_2_3 : S2x3072x24x3.ReducesTo [0, 1, 2, 3] S_
  bitsLt_bf16_f32 : FTy.bits .bf16 < FTy.bits .f32
  bcast_S_S24x40x96 : S_.BroadcastsInDim S24x40x96 (![] : Fin 0 → Fin S24x40x96.rank)
  reducesTo_S24x40x96_S_d0_1_2 : S24x40x96.ReducesTo [0, 1, 2] S_

variable [Facts]

def fn_part1 {F : FTy → Type} [FloatOps F] (main_arg4 : FVec F S2x3072x24x3 .f32) (main_arg6 : FVec F S24x40x96 .bf16) (main_v5 : IVec S_ 1) (main_v11 : IVec S_ 1) (main_v15 : IVec S_ 1) : IVec S_ 1 × IVec S_ 1 × IVec S_ 1 × IVec S_ 1 × IVec S_ 1 :=
  let main_v16 : FVec F S2x3072x24x3 .f32 := Host.absf main_arg4
  let main_cst_6 : FVec F S_ .f32 := constant S_ .f32 0x7F800000#32
  let main_v17 : FVec F S2x3072x24x3 .f32 := broadcastInDim S2x3072x24x3 ![] bcast_S_S2x3072x24x3 main_cst_6
  let main_v18 : IVec S2x3072x24x3 1 := cmpf .olt main_v16 main_v17
  let main_c_7 : IVec S_ 1 := constantI S_ 1 1#1
  let main_v19 : IVec S_ 1 := (fun x v => Host.reduce IntOp.andi x v reducesTo_S2x3072x24x3_S_d0_1_2_3 h_S_) main_v18 main_c_7
  let main_v20 : FVec F S24x40x96 .f32 := (extf .f32 · bitsLt_bf16_f32) main_arg6
  let main_v21 : FVec F S24x40x96 .f32 := Host.absf main_v20
  let main_cst_8 : FVec F S_ .f32 := constant S_ .f32 0x7F800000#32
  let main_v22 : FVec F S24x40x96 .f32 := broadcastInDim S24x40x96 ![] bcast_S_S24x40x96 main_cst_8
  let main_v23 : IVec S24x40x96 1 := cmpf .olt main_v21 main_v22
  let main_c_9 : IVec S_ 1 := constantI S_ 1 1#1
  let main_v24 : IVec S_ 1 := (fun x v => Host.reduce IntOp.andi x v reducesTo_S24x40x96_S_d0_1_2 h_S_) main_v23 main_c_9
  (main_v5, main_v11, main_v15, main_v19, main_v24)

def fn {F : FTy → Type} [FloatOps F] (main_arg0 : IVec S2x3072x24x96 8) (main_arg1 : IVec S2x3072x24x96 8) (main_arg2 : IVec S2x3072x24x96 8) (main_arg3 : FVec F S2x3072x24x3 .f32) (main_arg4 : FVec F S2x3072x24x3 .f32) (main_arg5 : FVec F S2x3072x24x3 .f32) (main_arg6 : FVec F S24x40x96 .bf16) : IVec S_ 1 × IVec S_ 1 × IVec S_ 1 × IVec S_ 1 × IVec S_ 1 :=
  let main_v0 : IVec S2x3072x24x96 32 := (extui 32 · natLt_8_32) main_arg0
  let main_c : IVec S_ 32 := constantI S_ 32 127#32
  let main_v1 : IVec S2x3072x24x96 32 := broadcastInDim S2x3072x24x96 ![] bcast_S_S2x3072x24x96 main_c
  let main_v2 : IVec S2x3072x24x96 32 := andi main_v0 main_v1
  let main_c_0 : IVec S_ 32 := constantI S_ 32 127#32
  let main_v3 : IVec S2x3072x24x96 32 := broadcastInDim S2x3072x24x96 ![] bcast_S_S2x3072x24x96 main_c_0
  let main_v4 : IVec S2x3072x24x96 1 := cmpi .ne main_v2 main_v3
  let main_c_1 : IVec S_ 1 := constantI S_ 1 1#1
  let main_v5 : IVec S_ 1 := (fun x v => Host.reduce IntOp.andi x v reducesTo_S2x3072x24x96_S_d0_1_2_3 h_S_) main_v4 main_c_1
  let main_v6 : IVec S2x3072x24x96 32 := (extui 32 · natLt_8_32) main_arg1
  let main_c_2 : IVec S_ 32 := constantI S_ 32 127#32
  let main_v7 : IVec S2x3072x24x96 32 := broadcastInDim S2x3072x24x96 ![] bcast_S_S2x3072x24x96 main_c_2
  let main_v8 : IVec S2x3072x24x96 32 := andi main_v6 main_v7
  let main_c_3 : IVec S_ 32 := constantI S_ 32 127#32
  let main_v9 : IVec S2x3072x24x96 32 := broadcastInDim S2x3072x24x96 ![] bcast_S_S2x3072x24x96 main_c_3
  let main_v10 : IVec S2x3072x24x96 1 := cmpi .ne main_v8 main_v9
  let main_c_4 : IVec S_ 1 := constantI S_ 1 1#1
  let main_v11 : IVec S_ 1 := (fun x v => Host.reduce IntOp.andi x v reducesTo_S2x3072x24x96_S_d0_1_2_3 h_S_) main_v10 main_c_4
  let main_v12 : FVec F S2x3072x24x3 .f32 := Host.absf main_arg3
  let main_cst : FVec F S_ .f32 := constant S_ .f32 0x7F800000#32
  let main_v13 : FVec F S2x3072x24x3 .f32 := broadcastInDim S2x3072x24x3 ![] bcast_S_S2x3072x24x3 main_cst
  let main_v14 : IVec S2x3072x24x3 1 := cmpf .olt main_v12 main_v13
  let main_c_5 : IVec S_ 1 := constantI S_ 1 1#1
  let main_v15 : IVec S_ 1 := (fun x v => Host.reduce IntOp.andi x v reducesTo_S2x3072x24x3_S_d0_1_2_3 h_S_) main_v14 main_c_5
  fn_part1 (F := F) main_arg4 main_arg6 main_v5 main_v11 main_v15
-- ==== Kernel.lean ====
abbrev S2x3072x24x96 : Shape := ⟨4, ![2, 3072, 24, 96]⟩
abbrev S2x3072x24x3 : Shape := ⟨4, ![2, 3072, 24, 3]⟩
abbrev S24x40x96 : Shape := ⟨3, ![24, 40, 96]⟩
abbrev S2x24x96x3072 : Shape := ⟨4, ![2, 24, 96, 3072]⟩
abbrev S2x3x24x3072 : Shape := ⟨4, ![2, 3, 24, 3072]⟩
abbrev S_ : Shape := ⟨0, ![]⟩
abbrev S24x128x96 : Shape := ⟨3, ![24, 128, 96]⟩
abbrev S1x1x96x3072 : Shape := ⟨4, ![1, 1, 96, 3072]⟩
abbrev S1x3x24x3072 : Shape := ⟨4, ![1, 3, 24, 3072]⟩
abbrev S1x128x96 : Shape := ⟨3, ![1, 128, 96]⟩
abbrev S3072x96 : Shape := ⟨2, ![3072, 96]⟩
abbrev S96x3072 : Shape := ⟨2, ![96, 3072]⟩
abbrev S1x1x32x3072 : Shape := ⟨4, ![1, 1, 32, 3072]⟩
abbrev S32x3072 : Shape := ⟨2, ![32, 3072]⟩
abbrev S1x1x1x3072 : Shape := ⟨4, ![1, 1, 1, 3072]⟩
abbrev S1x3072 : Shape := ⟨2, ![1, 3072]⟩
abbrev S256x256 : Shape := ⟨2, ![256, 256]⟩
abbrev S128x128 : Shape := ⟨2, ![128, 128]⟩
abbrev S128x96 : Shape := ⟨2, ![128, 96]⟩
abbrev S96x128 : Shape := ⟨2, ![96, 128]⟩
abbrev S128x1 : Shape := ⟨2, ![128, 1]⟩
abbrev S96x256 : Shape := ⟨2, ![96, 256]⟩
abbrev S128x256 : Shape := ⟨2, ![128, 256]⟩
abbrev S128x128x1 : Shape := ⟨3, ![128, 128, 1]⟩
abbrev S128 : Shape := ⟨1, ![128]⟩
abbrev S256x96 : Shape := ⟨2, ![256, 96]⟩
abbrev S1x128x1 : Shape := ⟨3, ![1, 128, 1]⟩
abbrev S1 : Shape := ⟨1, ![1]⟩
abbrev S1x1x1 : Shape := ⟨3, ![1, 1, 1]⟩
abbrev S1x1x96x128 : Shape := ⟨4, ![1, 1, 96, 128]⟩

abbrev nBuf : Space → Nat
  | .hbm => 21
  | .vmem => 19
  | .smem => 0
  | _ => 0

abbrev bufTy : (tb : Table) → Fin (tcTables nBuf tb) → BufTy
  | .hbm, ⟨0, _⟩ => ⟨S2x3072x24x96, .i8⟩
  | .hbm, ⟨1, _⟩ => ⟨S2x3072x24x96, .i8⟩
  | .hbm, ⟨2, _⟩ => ⟨S2x3072x24x96, .i8⟩
  | .hbm, ⟨3, _⟩ => ⟨S2x3072x24x3, .f32⟩
  | .hbm, ⟨4, _⟩ => ⟨S2x3072x24x3, .f32⟩
  | .hbm, ⟨5, _⟩ => ⟨S2x3072x24x3, .f32⟩
  | .hbm, ⟨6, _⟩ => ⟨S24x40x96, .bf16⟩
  | .hbm, ⟨7, _⟩ => ⟨S2x3072x24x96, .fp8e4m3⟩
  | .hbm, ⟨8, _⟩ => ⟨S2x3072x24x96, .fp8e4m3⟩
  | .hbm, ⟨9, _⟩ => ⟨S2x3072x24x96, .fp8e4m3⟩
  | .hbm, ⟨10, _⟩ => ⟨S2x24x96x3072, .fp8e4m3⟩
  | .hbm, ⟨11, _⟩ => ⟨S2x24x96x3072, .fp8e4m3⟩
  | .hbm, ⟨12, _⟩ => ⟨S2x24x96x3072, .fp8e4m3⟩
  | .hbm, ⟨13, _⟩ => ⟨S2x3x24x3072, .f32⟩
  | .hbm, ⟨14, _⟩ => ⟨S2x3x24x3072, .f32⟩
  | .hbm, ⟨15, _⟩ => ⟨S2x3x24x3072, .f32⟩
  | .hbm, ⟨16, _⟩ => ⟨S_, .i32⟩
  | .hbm, ⟨17, _⟩ => ⟨S_, .bf16⟩
  | .hbm, ⟨18, _⟩ => ⟨S24x128x96, .bf16⟩
  | .hbm, ⟨19, _⟩ => ⟨S2x24x96x3072, .bf16⟩
  | .hbm, ⟨20, _⟩ => ⟨S2x3072x24x96, .bf16⟩
  | .local _ .vmem, ⟨0, _⟩ => ⟨S1x1x96x3072, .fp8e4m3⟩
  | .local _ .vmem, ⟨1, _⟩ => ⟨S1x1x96x3072, .fp8e4m3⟩
  | .local _ .vmem, ⟨2, _⟩ => ⟨S1x1x96x3072, .fp8e4m3⟩
  | .local _ .vmem, ⟨3, _⟩ => ⟨S1x1x96x3072, .fp8e4m3⟩
  | .local _ .vmem, ⟨4, _⟩ => ⟨S1x1x96x3072, .fp8e4m3⟩
  | .local _ .vmem, ⟨5, _⟩ => ⟨S1x1x96x3072, .fp8e4m3⟩
  | .local _ .vmem, ⟨6, _⟩ => ⟨S1x3x24x3072, .f32⟩
  | .local _ .vmem, ⟨7, _⟩ => ⟨S1x3x24x3072, .f32⟩
  | .local _ .vmem, ⟨8, _⟩ => ⟨S1x3x24x3072, .f32⟩
  | .local _ .vmem, ⟨9, _⟩ => ⟨S1x3x24x3072, .f32⟩
  | .local _ .vmem, ⟨10, _⟩ => ⟨S1x3x24x3072, .f32⟩
  | .local _ .vmem, ⟨11, _⟩ => ⟨S1x3x24x3072, .f32⟩
  | .local _ .vmem, ⟨12, _⟩ => ⟨S1x128x96, .bf16⟩
  | .local _ .vmem, ⟨13, _⟩ => ⟨S1x128x96, .bf16⟩
  | .local _ .vmem, ⟨14, _⟩ => ⟨S1x1x96x3072, .bf16⟩
  | .local _ .vmem, ⟨15, _⟩ => ⟨S1x1x96x3072, .bf16⟩
  | .local _ .vmem, ⟨16, _⟩ => ⟨S3072x96, .bf16⟩
  | .local _ .vmem, ⟨17, _⟩ => ⟨S96x3072, .bf16⟩
  | .local _ .vmem, ⟨18, _⟩ => ⟨S3072x96, .bf16⟩
  | _, _ => ⟨S2x3072x24x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 24], ![false, false]⟩

def k0_off1 (i : grid0.Coords) : Fin 4 → Nat :=
  let c0_3 : Index := 0#32
  let c0_4 : Index := 0#32
  let arg1 : BitVec 32 := BitVec.ofNat 32 (i 1).val
  let v3 : Index := Scalar.indexCast arg1
  let c0_5 : Index := 0#32
  ![0, 0, v3.toNat, 0]
def k0_off2 (i : grid0.Coords) : Fin 4 → Nat :=
  let c0_9 : Index := 0#32
  let c1 : Index := 1#32
  let arg1 : BitVec 32 := BitVec.ofNat 32 (i 1).val
  let v14 : Index := Scalar.indexCast arg1
  let c0_10 : Index := 0#32
  ![0, 1, v14.toNat, 0]
def k0_off3 (i : grid0.Coords) : Fin 4 → Nat :=
  let c0_14 : Index := 0#32
  let c2 : Index := 2#32
  let arg1 : BitVec 32 := BitVec.ofNat 32 (i 1).val
  let v25 : Index := Scalar.indexCast arg1
  let c0_15 : Index := 0#32
  ![0, 2, v25.toNat, 0]
@[reducible] def k0_t1_loop : Scf.Loop 32 :=
  let c0_i32 : BitVec 32 := 0#32
  let c24_i32 : BitVec 32 := 24#32
  let v124 : BitVec 32 := Scalar.addi c0_i32 c24_i32
  let c1_i32 : BitVec 32 := 1#32
  ⟨c0_i32, v124, c1_i32⟩
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v125 : BitVec 32 := Scalar.muli arg13 c128_i32
  let v126 : Index := Scalar.indexCast v125
  let c0_65 : Index := 0#32
  ![v126.toNat, 0]
def k0_mult1 (arg14 : BitVec 32) : BitVec 32 :=
  let c256_i32_91 : BitVec 32 := 256#32
  let v183 : BitVec 32 := Scalar.muli arg14 c256_i32_91
  v183

def k0_off5 (arg14 : BitVec 32) : Fin 2 → Nat :=
  let c0_92 : Index := 0#32
  let c256_i32_91 : BitVec 32 := 256#32
  let v183 : BitVec 32 := Scalar.muli arg14 c256_i32_91
  let v184 : BitVec 32 := v183
  let v185 : Index := Scalar.indexCast v184
  ![0, v185.toNat]
def k0_off6 (arg14 : BitVec 32) : Fin 2 → Nat :=
  let c256_i32_91 : BitVec 32 := 256#32
  let v183 : BitVec 32 := Scalar.muli arg14 c256_i32_91
  let v184 : BitVec 32 := v183
  let v268 : Index := Scalar.indexCast v184
  let c0_106 : Index := 0#32
  ![v268.toNat, 0]

def k0_chk1 (arg14 : BitVec 32) : Prop :=
  (256 ∣ (k0_mult1 arg14).toNat) ∧
  (∀ a, (k0_off5 arg14) a + S96x256.size a ≤ S96x3072.size a) ∧
  (∀ a, (k0_off6 arg14) a + S256x96.size a ≤ S3072x96.size a)
theorem k0_mult1_dvd : ∀ (arg14 : BitVec 32) (k0_hw1 : k0_chk1 arg14), 256 ∣ (k0_mult1 arg14).toNat := fun arg14 k0_hw1 => k0_hw1.1
theorem k0_off5_inb : ∀ (arg14 : BitVec 32) (k0_hw1 : k0_chk1 arg14), ∀ a, (k0_off5 arg14) a + S96x256.size a ≤ S96x3072.size a := fun arg14 k0_hw1 => k0_hw1.2.1
theorem k0_off6_inb : ∀ (arg14 : BitVec 32) (k0_hw1 : k0_chk1 arg14), ∀ a, (k0_off6 arg14) a + S256x96.size a ≤ S3072x96.size a := fun arg14 k0_hw1 => k0_hw1.2.2

@[reducible] def k0_t2_loop (v166_0 : BitVec 32) : Scf.Loop 32 :=
  let c0_i32_84 : BitVec 32 := 0#32
  let c1_i32_83 : BitVec 32 := 1#32
  let v167 : BitVec 32 := Scalar.addi v166_0 c1_i32_83
  let v168 : BitVec 32 := Scalar.subi v167 c0_i32_84
  let c1_i32_85 : BitVec 32 := 1#32
  let v170 : BitVec 32 := Scalar.divsi v168 c1_i32_85
  let v171 : BitVec 32 := Scalar.muli v170 c1_i32_85
  let v172 : BitVec 32 := Scalar.addi c0_i32_84 v171
  let c1_i32_86 : BitVec 32 := 1#32
  ⟨c0_i32_84, v172, c1_i32_86⟩

def k0_mult2 (v166_0 : BitVec 32) (k0_t2 : Fin (k0_t2_loop v166_0).trips) : BitVec 32 :=
  let c0_i32_84 : BitVec 32 := 0#32
  let c1_i32_86 : BitVec 32 := 1#32
  let arg14 : BitVec 32 := Scf.iv c0_i32_84 c1_i32_86 k0_t2
  let c256_i32_91 : BitVec 32 := 256#32
  let v183 : BitVec 32 := Scalar.muli arg14 c256_i32_91
  v183
def k0_off7 (v166_0 : BitVec 32) (k0_t2 : Fin (k0_t2_loop v166_0).trips) : Fin 2 → Nat :=
  let c0_92 : Index := 0#32
  let c0_i32_84 : BitVec 32 := 0#32
  let c1_i32_86 : BitVec 32 := 1#32
  let arg14 : BitVec 32 := Scf.iv c0_i32_84 c1_i32_86 k0_t2
  let c256_i32_91 : BitVec 32 := 256#32
  let v183 : BitVec 32 := Scalar.muli arg14 c256_i32_91
  let v184 : BitVec 32 := v183
  let v185 : Index := Scalar.indexCast v184
  ![0, v185.toNat]
def k0_off8 (v166_0 : BitVec 32) (k0_t2 : Fin (k0_t2_loop v166_0).trips) : Fin 2 → Nat :=
  let c0_i32_84 : BitVec 32 := 0#32
  let c1_i32_86 : BitVec 32 := 1#32
  let arg14 : BitVec 32 := Scf.iv c0_i32_84 c1_i32_86 k0_t2
  let c256_i32_91 : BitVec 32 := 256#32
  let v183 : BitVec 32 := Scalar.muli arg14 c256_i32_91
  let v184 : BitVec 32 := v183
  let v207 : Index := Scalar.indexCast v184
  let c0_97 : Index := 0#32
  ![v207.toNat, 0]
@[reducible] def k0_t3_loop (v166_0 : BitVec 32) : Scf.Loop 32 :=
  let c0_i32_84 : BitVec 32 := 0#32
  let c1_i32_83 : BitVec 32 := 1#32
  let v167 : BitVec 32 := Scalar.addi v166_0 c1_i32_83
  let v168 : BitVec 32 := Scalar.subi v167 c0_i32_84
  let c1_i32_85 : BitVec 32 := 1#32
  let v170 : BitVec 32 := Scalar.divsi v168 c1_i32_85
  let v171 : BitVec 32 := Scalar.muli v170 c1_i32_85
  let v172 : BitVec 32 := Scalar.addi c0_i32_84 v171
  let v169 : BitVec 32 := Scalar.addi c0_i32_84 v168
  let c1_i32_87 : BitVec 32 := 1#32
  ⟨v172, v169, c1_i32_87⟩
def k0_mult3 (v166_0 : BitVec 32) (k0_t3 : Fin (k0_t3_loop v166_0).trips) : BitVec 32 :=
  let c0_i32_84 : BitVec 32 := 0#32
  let c1_i32_83 : BitVec 32 := 1#32
  let v167 : BitVec 32 := Scalar.addi v166_0 c1_i32_83
  let v168 : BitVec 32 := Scalar.subi v167 c0_i32_84
  let c1_i32_85 : BitVec 32 := 1#32
  let v170 : BitVec 32 := Scalar.divsi v168 c1_i32_85
  let v171 : BitVec 32 := Scalar.muli v170 c1_i32_85
  let v172 : BitVec 32 := Scalar.addi c0_i32_84 v171
  let c1_i32_87 : BitVec 32 := 1#32
  let arg14 : BitVec 32 := Scf.iv v172 c1_i32_87 k0_t3
  let c256_i32_91 : BitVec 32 := 256#32
  let v183 : BitVec 32 := Scalar.muli arg14 c256_i32_91
  v183
def k0_off9 (v166_0 : BitVec 32) (k0_t3 : Fin (k0_t3_loop v166_0).trips) : Fin 2 → Nat :=
  let c0_92 : Index := 0#32
  let c0_i32_84 : BitVec 32 := 0#32
  let c1_i32_83 : BitVec 32 := 1#32
  let v167 : BitVec 32 := Scalar.addi v166_0 c1_i32_83
  let v168 : BitVec 32 := Scalar.subi v167 c0_i32_84
  let c1_i32_85 : BitVec 32 := 1#32
  let v170 : BitVec 32 := Scalar.divsi v168 c1_i32_85
  let v171 : BitVec 32 := Scalar.muli v170 c1_i32_85
  let v172 : BitVec 32 := Scalar.addi c0_i32_84 v171
  let c1_i32_87 : BitVec 32 := 1#32
  let arg14 : BitVec 32 := Scf.iv v172 c1_i32_87 k0_t3
  let c256_i32_91 : BitVec 32 := 256#32
  let v183 : BitVec 32 := Scalar.muli arg14 c256_i32_91
  let v184 : BitVec 32 := v183
  let v185 : Index := Scalar.indexCast v184
  ![0, v185.toNat]
def k0_off10 (v166_0 : BitVec 32) (k0_t3 : Fin (k0_t3_loop v166_0).trips) : Fin 2 → Nat :=
  let c0_i32_84 : BitVec 32 := 0#32
  let c1_i32_83 : BitVec 32 := 1#32
  let v167 : BitVec 32 := Scalar.addi v166_0 c1_i32_83
  let v168 : BitVec 32 := Scalar.subi v167 c0_i32_84
  let c1_i32_85 : BitVec 32 := 1#32
  let v170 : BitVec 32 := Scalar.divsi v168 c1_i32_85
  let v171 : BitVec 32 := Scalar.muli v170 c1_i32_85
  let v172 : BitVec 32 := Scalar.addi c0_i32_84 v171
  let c1_i32_87 : BitVec 32 := 1#32
  let arg14 : BitVec 32 := Scf.iv v172 c1_i32_87 k0_t3
  let c256_i32_91 : BitVec 32 := 256#32
  let v183 : BitVec 32 := Scalar.muli arg14 c256_i32_91
  let v184 : BitVec 32 := v183
  let v207 : Index := Scalar.indexCast v184
  let c0_97 : Index := 0#32
  ![v207.toNat, 0]

def k0_chk2 (v166_0 : BitVec 32) : Prop :=
  ((k0_t2_loop v166_0).OK) ∧
  (∀ k0_t2 : Fin (k0_t2_loop v166_0).trips, 256 ∣ (k0_mult2 v166_0 k0_t2).toNat) ∧
  (∀ k0_t2 : Fin (k0_t2_loop v166_0).trips, ∀ a, (k0_off7 v166_0 k0_t2) a + S96x256.size a ≤ S96x3072.size a) ∧
  (∀ k0_t2 : Fin (k0_t2_loop v166_0).trips, ∀ a, (k0_off8 v166_0 k0_t2) a + S256x96.size a ≤ S3072x96.size a) ∧
  ((k0_t3_loop v166_0).OK) ∧
  (∀ k0_t3 : Fin (k0_t3_loop v166_0).trips, 256 ∣ (k0_mult3 v166_0 k0_t3).toNat) ∧
  (∀ k0_t3 : Fin (k0_t3_loop v166_0).trips, ∀ a, (k0_off9 v166_0 k0_t3) a + S96x256.size a ≤ S96x3072.size a) ∧
  (∀ k0_t3 : Fin (k0_t3_loop v166_0).trips, ∀ a, (k0_off10 v166_0 k0_t3) a + S256x96.size a ≤ S3072x96.size a)
theorem k0_t2_ok : ∀ (v166_0 : BitVec 32) (k0_hw2 : k0_chk2 v166_0), (k0_t2_loop v166_0).OK := fun v166_0 k0_hw2 => k0_hw2.1
theorem k0_mult2_dvd : ∀ (v166_0 : BitVec 32) (k0_hw2 : k0_chk2 v166_0) (k0_t2 : Fin (k0_t2_loop v166_0).trips), 256 ∣ (k0_mult2 v166_0 k0_t2).toNat := fun v166_0 k0_hw2 k0_t2 => k0_hw2.2.1 k0_t2
theorem k0_off7_inb : ∀ (v166_0 : BitVec 32) (k0_hw2 : k0_chk2 v166_0) (k0_t2 : Fin (k0_t2_loop v166_0).trips), ∀ a, (k0_off7 v166_0 k0_t2) a + S96x256.size a ≤ S96x3072.size a := fun v166_0 k0_hw2 k0_t2 => k0_hw2.2.2.1 k0_t2
theorem k0_off8_inb : ∀ (v166_0 : BitVec 32) (k0_hw2 : k0_chk2 v166_0) (k0_t2 : Fin (k0_t2_loop v166_0).trips), ∀ a, (k0_off8 v166_0 k0_t2) a + S256x96.size a ≤ S3072x96.size a := fun v166_0 k0_hw2 k0_t2 => k0_hw2.2.2.2.1 k0_t2
theorem k0_t3_ok : ∀ (v166_0 : BitVec 32) (k0_hw2 : k0_chk2 v166_0), (k0_t3_loop v166_0).OK := fun v166_0 k0_hw2 => k0_hw2.2.2.2.2.1
theorem k0_mult3_dvd : ∀ (v166_0 : BitVec 32) (k0_hw2 : k0_chk2 v166_0) (k0_t3 : Fin (k0_t3_loop v166_0).trips), 256 ∣ (k0_mult3 v166_0 k0_t3).toNat := fun v166_0 k0_hw2 k0_t3 => k0_hw2.2.2.2.2.2.1 k0_t3
theorem k0_off9_inb : ∀ (v166_0 : BitVec 32) (k0_hw2 : k0_chk2 v166_0) (k0_t3 : Fin (k0_t3_loop v166_0).trips), ∀ a, (k0_off9 v166_0 k0_t3) a + S96x256.size a ≤ S96x3072.size a := fun v166_0 k0_hw2 k0_t3 => k0_hw2.2.2.2.2.2.2.1 k0_t3
theorem k0_off10_inb : ∀ (v166_0 : BitVec 32) (k0_hw2 : k0_chk2 v166_0) (k0_t3 : Fin (k0_t3_loop v166_0).trips), ∀ a, (k0_off10 v166_0 k0_t3) a + S256x96.size a ≤ S3072x96.size a := fun v166_0 k0_hw2 k0_t3 => k0_hw2.2.2.2.2.2.2.2 k0_t3

def k0_off11 (k0_t1 : Fin k0_t1_loop.trips) : Fin 4 → Nat :=
  let c0_88 : Index := 0#32
  let c0_89 : Index := 0#32
  let c0_90 : Index := 0#32
  let c0_i32 : BitVec 32 := 0#32
  let c1_i32 : BitVec 32 := 1#32
  let arg13 : BitVec 32 := Scf.iv c0_i32 c1_i32 k0_t1
  let c128_i32 : BitVec 32 := 128#32
  let v125 : BitVec 32 := Scalar.muli arg13 c128_i32
  let v179 : Index := Scalar.indexCast v125
  ![0, 0, 0, v179.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x96x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x24x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x24x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x24x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x96x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "score_log2e" => some (((Real.sqrt 96)⁻¹ * (Real.log 2)⁻¹ : ℝ) : EReal)
  | _ => none
-- ==== ReferenceIdeal.lean ====
abbrev S2x3072x24x96 : Shape := ⟨4, ![2, 3072, 24, 96]⟩
abbrev S2x3072x24x3 : Shape := ⟨4, ![2, 3072, 24, 3]⟩
abbrev S24x40x96 : Shape := ⟨3, ![24, 40, 96]⟩
abbrev S2x3072x24x3x32 : Shape := ⟨5, ![2, 3072, 24, 3, 32]⟩
abbrev S2x3072x24x3x1 : Shape := ⟨5, ![2, 3072, 24, 3, 1]⟩
abbrev S2x24x3072x96 : Shape := ⟨4, ![2, 24, 3072, 96]⟩
abbrev S2x24x3072x3072 : Shape := ⟨4, ![2, 24, 3072, 3072]⟩
abbrev S_ : Shape := ⟨0, ![]⟩
abbrev S3072 : Shape := ⟨1, ![3072]⟩
abbrev S1x3072 : Shape := ⟨2, ![1, 3072]⟩
abbrev S3072x1 : Shape := ⟨2, ![3072, 1]⟩
abbrev S3072x3072 : Shape := ⟨2, ![3072, 3072]⟩
abbrev S24x40x2x3072 : Shape := ⟨4, ![24, 40, 2, 3072]⟩
abbrev S2x24x3072x40 : Shape := ⟨4, ![2, 24, 3072, 40]⟩
abbrev S2x24x3072x3072x1 : Shape := ⟨5, ![2, 24, 3072, 3072, 1]⟩
abbrev S39 : Shape := ⟨1, ![39]⟩
abbrev S1x1x1x1x39 : Shape := ⟨5, ![1, 1, 1, 1, 39]⟩
abbrev S2x24x3072x3072x39 : Shape := ⟨5, ![2, 24, 3072, 3072, 39]⟩
abbrev S2x24x3072x39 : Shape := ⟨4, ![2, 24, 3072, 39]⟩
abbrev S2x24x3072x1x39 : Shape := ⟨5, ![2, 24, 3072, 1, 39]⟩
abbrev S2x24x3072 : Shape := ⟨3, ![2, 24, 3072]⟩
abbrev S2x24x3072x1 : Shape := ⟨4, ![2, 24, 3072, 1]⟩
abbrev S2x24x96x3072 : Shape := ⟨4, ![2, 24, 96, 3072]⟩

abbrev nBuf : Space → Nat
  | .hbm => 128
  | .vmem => 6
  | .smem => 0
  | _ => 0

abbrev bufTy : (tb : Table) → Fin (tcTables nBuf tb) → BufTy
  | .hbm, ⟨0, _⟩ => ⟨S2x3072x24x96, .i8⟩
  | .hbm, ⟨1, _⟩ => ⟨S2x3072x24x96, .i8⟩
  | .hbm, ⟨2, _⟩ => ⟨S2x3072x24x96, .i8⟩
  | .hbm, ⟨3, _⟩ => ⟨S2x3072x24x3, .f32⟩
  | .hbm, ⟨4, _⟩ => ⟨S2x3072x24x3, .f32⟩
  | .hbm, ⟨5, _⟩ => ⟨S2x3072x24x3, .f32⟩
  | .hbm, ⟨6, _⟩ => ⟨S24x40x96, .bf16⟩
  | .hbm, ⟨7, _⟩ => ⟨S2x3072x24x96, .fp8e4m3⟩
  | .hbm, ⟨8, _⟩ => ⟨S2x3072x24x96, .fp8e4m3⟩
  | .hbm, ⟨9, _⟩ => ⟨S2x3072x24x96, .fp8e4m3⟩
  | .hbm, ⟨10, _⟩ => ⟨S2x3072x24x96, .bf16⟩
  | .hbm, ⟨11, _⟩ => ⟨S2x3072x24x96, .bf16⟩
  | .hbm, ⟨12, _⟩ => ⟨S2x3072x24x96, .bf16⟩
  | .hbm, ⟨13, _⟩ => ⟨S2x3072x24x3x32, .bf16⟩
  | .hbm, ⟨14, _⟩ => ⟨S2x3072x24x3, .bf16⟩
  | .hbm, ⟨15, _⟩ => ⟨S2x3072x24x3x1, .bf16⟩
  | .hbm, ⟨16, _⟩ => ⟨S2x3072x24x3x32, .bf16⟩
  | .hbm, ⟨17, _⟩ => ⟨S2x3072x24x3x32, .bf16⟩
  | .hbm, ⟨18, _⟩ => ⟨S2x3072x24x96, .bf16⟩
  | .hbm, ⟨19, _⟩ => ⟨S2x24x3072x96, .bf16⟩
  | .hbm, ⟨20, _⟩ => ⟨S2x3072x24x3x32, .bf16⟩
  | .hbm, ⟨21, _⟩ => ⟨S2x3072x24x3, .bf16⟩
  | .hbm, ⟨22, _⟩ => ⟨S2x3072x24x3x1, .bf16⟩
  | .hbm, ⟨23, _⟩ => ⟨S2x3072x24x3x32, .bf16⟩
  | .hbm, ⟨24, _⟩ => ⟨S2x3072x24x3x32, .bf16⟩
  | .hbm, ⟨25, _⟩ => ⟨S2x3072x24x96, .bf16⟩
  | .hbm, ⟨26, _⟩ => ⟨S2x24x3072x96, .bf16⟩
  | .hbm, ⟨27, _⟩ => ⟨S2x3072x24x3x32, .bf16⟩
  | .hbm, ⟨28, _⟩ => ⟨S2x3072x24x3, .bf16⟩
  | .hbm, ⟨29, _⟩ => ⟨S2x3072x24x3x1, .bf16⟩
  | .hbm, ⟨30, _⟩ => ⟨S2x3072x24x3x32, .bf16⟩
  | .hbm, ⟨31, _⟩ => ⟨S2x3072x24x3x32, .bf16⟩
  | .hbm, ⟨32, _⟩ => ⟨S2x3072x24x96, .bf16⟩
  | .hbm, ⟨33, _⟩ => ⟨S2x24x3072x96, .bf16⟩
  | .hbm, ⟨34, _⟩ => ⟨S2x24x3072x3072, .f32⟩
  | .hbm, ⟨35, _⟩ => ⟨S_, .f32⟩
  | .hbm, ⟨36, _⟩ => ⟨S_, .f32⟩
  | .hbm, ⟨37, _⟩ => ⟨S2x24x3072x3072, .f32⟩
  | .hbm, ⟨38, _⟩ => ⟨S2x24x3072x3072, .f32⟩
  | .hbm, ⟨39, _⟩ => ⟨S3072, .i32⟩
  | .hbm, ⟨40, _⟩ => ⟨S1x3072, .i32⟩
  | .hbm, ⟨41, _⟩ => ⟨S3072, .i32⟩
  | .hbm, ⟨42, _⟩ => ⟨S3072x1, .i32⟩
  | .hbm, ⟨43, _⟩ => ⟨S3072x3072, .i32⟩
  | .hbm, ⟨44, _⟩ => ⟨S3072x3072, .i32⟩
  | .hbm, ⟨45, _⟩ => ⟨S3072x3072, .i1⟩
  | .hbm, ⟨46, _⟩ => ⟨S2x24x3072x3072, .f32⟩
  | .hbm, ⟨47, _⟩ => ⟨S2x24x3072x3072, .f32⟩
  | .hbm, ⟨48, _⟩ => ⟨S_, .f32⟩
  | .hbm, ⟨49, _⟩ => ⟨S2x24x3072x3072, .f32⟩
  | .hbm, ⟨50, _⟩ => ⟨S2x24x3072x3072, .f32⟩
  | .hbm, ⟨51, _⟩ => ⟨S_, .f32⟩
  | .hbm, ⟨52, _⟩ => ⟨S2x24x3072x3072, .f32⟩
  | .hbm, ⟨53, _⟩ => ⟨S2x24x3072x3072, .f32⟩
  | .hbm, ⟨54, _⟩ => ⟨S_, .f32⟩
  | .hbm, ⟨55, _⟩ => ⟨S_, .f32⟩
  | .hbm, ⟨56, _⟩ => ⟨S2x24x3072x3072, .i1⟩
  | .hbm, ⟨57, _⟩ => ⟨S2x24x3072x3072, .f32⟩
  | .hbm, ⟨58, _⟩ => ⟨S2x24x3072x3072, .f32⟩
  | .hbm, ⟨59, _⟩ => ⟨S_, .f32⟩
  | .hbm, ⟨60, _⟩ => ⟨S_, .f32⟩
  | .hbm, ⟨61, _⟩ => ⟨S2x24x3072x3072, .f32⟩
  | .hbm, ⟨62, _⟩ => ⟨S_, .f32⟩
  | .hbm, ⟨63, _⟩ => ⟨S2x24x3072x3072, .f32⟩
  | .hbm, ⟨64, _⟩ => ⟨S2x24x3072x3072, .f32⟩
  | .hbm, ⟨65, _⟩ => ⟨S2x24x3072x3072, .f32⟩
  | .hbm, ⟨66, _⟩ => ⟨S_, .f32⟩
  | .hbm, ⟨67, _⟩ => ⟨S2x24x3072x3072, .f32⟩
  | .hbm, ⟨68, _⟩ => ⟨S2x24x3072x3072, .f32⟩
  | .hbm, ⟨69, _⟩ => ⟨S2x24x3072x3072, .i32⟩
  | .hbm, ⟨70, _⟩ => ⟨S2x24x3072x3072, .f32⟩
  | .hbm, ⟨71, _⟩ => ⟨S2x24x3072x3072, .f32⟩
  | .hbm, ⟨72, _⟩ => ⟨S24x40x2x3072, .f32⟩
  | .hbm, ⟨73, _⟩ => ⟨S2x24x3072x40, .f32⟩
  | .hbm, ⟨74, _⟩ => ⟨S2x24x3072x3072x1, .i32⟩
  | .hbm, ⟨75, _⟩ => ⟨S39, .i32⟩
  | .hbm, ⟨76, _⟩ => ⟨S1x1x1x1x39, .i32⟩
  | .hbm, ⟨77, _⟩ => ⟨S2x24x3072x3072x39, .i32⟩
  | .hbm, ⟨78, _⟩ => ⟨S2x24x3072x3072x39, .i32⟩
  | .hbm, ⟨79, _⟩ => ⟨S2x24x3072x3072x39, .i1⟩
  | .hbm, ⟨80, _⟩ => ⟨S2x24x3072x39, .f32⟩
  | .hbm, ⟨81, _⟩ => ⟨S2x24x3072x1x39, .f32⟩
  | .hbm, ⟨82, _⟩ => ⟨S_, .f32⟩
  | .hbm, ⟨83, _⟩ => ⟨S_, .f32⟩
  | .hbm, ⟨84, _⟩ => ⟨S2x24x3072x3072x39, .f32⟩
  | .hbm, ⟨85, _⟩ => ⟨S2x24x3072x3072x39, .f32⟩
  | .hbm, ⟨86, _⟩ => ⟨S2x24x3072x3072x39, .f32⟩
  | .hbm, ⟨87, _⟩ => ⟨S_, .f32⟩
  | .hbm, ⟨88, _⟩ => ⟨S2x24x3072x3072, .f32⟩
  | .hbm, ⟨89, _⟩ => ⟨S2x24x3072x39, .f32⟩
  | .hbm, ⟨90, _⟩ => ⟨S2x24x3072x1x39, .f32⟩
  | .hbm, ⟨91, _⟩ => ⟨S_, .f32⟩
  | .hbm, ⟨92, _⟩ => ⟨S_, .f32⟩
  | .hbm, ⟨93, _⟩ => ⟨S2x24x3072x3072x39, .f32⟩
  | .hbm, ⟨94, _⟩ => ⟨S2x24x3072x3072x39, .f32⟩
  | .hbm, ⟨95, _⟩ => ⟨S2x24x3072x3072x39, .f32⟩
  | .hbm, ⟨96, _⟩ => ⟨S_, .f32⟩
  | .hbm, ⟨97, _⟩ => ⟨S2x24x3072x3072, .f32⟩
  | .hbm, ⟨98, _⟩ => ⟨S_, .f32⟩
  | .hbm, ⟨99, _⟩ => ⟨S2x24x3072x3072, .f32⟩
  | .hbm, ⟨100, _⟩ => ⟨S2x24x3072x3072, .f32⟩
  | .hbm, ⟨101, _⟩ => ⟨S2x24x3072x3072, .f32⟩
  | .hbm, ⟨102, _⟩ => ⟨S2x24x3072x3072, .f32⟩
  | .hbm, ⟨103, _⟩ => ⟨S2x24x3072x3072, .f32⟩
  | .hbm, ⟨104, _⟩ => ⟨S2x24x3072x3072, .f32⟩
  | .hbm, ⟨105, _⟩ => ⟨S_, .f32⟩
  | .hbm, ⟨106, _⟩ => ⟨S_, .f32⟩
  | .hbm, ⟨107, _⟩ => ⟨S2x24x3072x3072, .i1⟩
  | .hbm, ⟨108, _⟩ => ⟨S2x24x3072x3072, .f32⟩
  | .hbm, ⟨109, _⟩ => ⟨S2x24x3072x3072, .f32⟩
  | .hbm, ⟨110, _⟩ => ⟨S_, .f32⟩
  | .hbm, ⟨111, _⟩ => ⟨S2x24x3072, .f32⟩
  | .hbm, ⟨112, _⟩ => ⟨S_, .f32⟩
  | .hbm, ⟨113, _⟩ => ⟨S2x24x3072, .f32⟩
  | .hbm, ⟨114, _⟩ => ⟨S2x24x3072, .f32⟩
  | .hbm, ⟨115, _⟩ => ⟨S2x24x3072x1, .f32⟩
  | .hbm, ⟨116, _⟩ => ⟨S2x24x3072x3072, .f32⟩
  | .hbm, ⟨117, _⟩ => ⟨S2x24x3072x3072, .f32⟩
  | .hbm, ⟨118, _⟩ => ⟨S2x24x3072x3072, .f32⟩
  | .hbm, ⟨119, _⟩ => ⟨S_, .f32⟩
  | .hbm, ⟨120, _⟩ => ⟨S2x24x3072, .f32⟩
  | .hbm, ⟨121, _⟩ => ⟨S2x24x3072x1, .f32⟩
  | .hbm, ⟨122, _⟩ => ⟨S2x24x3072x3072, .f32⟩
  | .hbm, ⟨123, _⟩ => ⟨S2x24x3072x3072, .f32⟩
  | .hbm, ⟨124, _⟩ => ⟨S2x24x3072x3072, .bf16⟩
  | .hbm, ⟨125, _⟩ => ⟨S2x24x96x3072, .f32⟩
  | .hbm, ⟨126, _⟩ => ⟨S2x3072x24x96, .f32⟩
  | .hbm, ⟨127, _⟩ => ⟨S2x3072x24x96, .bf16⟩
  | .local _ .vmem, ⟨0, _⟩ => ⟨S2x3072x24x96, .fp8e4m3⟩
  | .local _ .vmem, ⟨1, _⟩ => ⟨S2x3072x24x96, .fp8e4m3⟩
  | .local _ .vmem, ⟨2, _⟩ => ⟨S2x3072x24x96, .fp8e4m3⟩
  | .local _ .vmem, ⟨3, _⟩ => ⟨S2x3072x24x96, .bf16⟩
  | .local _ .vmem, ⟨4, _⟩ => ⟨S2x3072x24x96, .bf16⟩
  | .local _ .vmem, ⟨5, _⟩ => ⟨S2x3072x24x96, .bf16⟩
  | _, _ => ⟨S2x3072x24x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_call1_cst : Ref sig .tc := ⟨.hbm, 59, rfl⟩
abbrev main_call1_v0 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_5 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v66 : Ref sig .tc := ⟨.hbm, 95, rfl⟩
abbrev main_cst_8 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x3072x24x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x24x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072x24x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072x24x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072x24x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072x24x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Step.lean ====
/-
  The kernel's loops: the while loop over key blocks met by a pure recursion on its carried tuple, and the loop over query
  blocks by its invariant (each trip writes one block of the output).
-/
module

public import proofs.«01_k».proof.Proof.Gen.Kernel.Loops
public import proofs.«01_k».proof.Proof.Gen.Kernel.Points
public import Idealize.ShloMosaic.Lib.Tactic
public import Idealize.ShloMosaic.Lib.WordCmp

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The while loop's carried tuple: the key block still to visit, the cumulative gate of each row, its least value over the
    rows, and the running maximum, sum and weighted sum of the softmax. -/
abbrev St (F : FTy → Type) : Type :=
  BitVec 32 × FVec F S128x1 .f32 × F .f32 × FVec F S128x1 .f32 × FVec F S128x1 .f32 × FVec F S128x96 .f32

/-- Key block `j`, as the loop's body reads it. -/
def kb (arg11 : Memref sig .tc .vmem S96x3072 .bf16) (X : BufTy.Contents (Elt F) arg11.view.ty) (j : BitVec 32) (h : k0_chk1 j) :
    Vec F S96x256 .bf16 :=
  arg11.view.readAt (Elt F) (Rect.unit (s := S96x3072) (k0_off5 j) S96x256.size (k0_off5_inb j h)).toLoadRect X

/-- Value block `j`, as the loop's body reads it. -/
def vb (arg12 : Memref sig .tc .vmem S3072x96 .bf16) (X : BufTy.Contents (Elt F) arg12.view.ty) (j : BitVec 32) (h : k0_chk1 j) :
    Vec F S256x96 .bf16 :=
  arg12.view.readAt (Elt F) (Rect.unit (s := S3072x96) (k0_off6 j) S256x96.size (k0_off6_inb j h)).toLoadRect X

/-- The first row of query block `t`. -/
def row0 (t : Fin k0_t1_loop.trips) : BitVec 32 := Scalar.muli (Scf.iv 0#32 1#32 t) 128#32

/-- One pass of the while loop's body over a key block and its value block. -/
def wstep (t : Fin k0_t1_loop.trips) (q : Vec F S128x96 .bf16) (tri : FVec F S256x256 .bf16) (sl ba : FVec F S128x128 .f32)
    (KB : Vec F S96x256 .bf16) (VB : Vec F S256x96 .bf16) (s : St F) : St F :=
  (Scalar.subi s.1 1#32, k0_pay44 q tri s.1 s.2.1 (row0 t) KB, k0_pay24 (k0_pay44 q tri s.1 s.2.1 (row0 t) KB),
    k0_pay19 sl ba s.2.2.2.1 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB),
    k0_pay22 sl ba s.2.2.2.1 s.2.2.2.2.1 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB),
    k0_pay23 sl ba s.2.2.2.1 s.2.2.2.2.2 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB) VB)

/-- The while loop's test. -/
def wtest (s : St F) : Prop :=
  Scalar.andi (Scalar.cmpi .sge s.1 0#32) (Scalar.cmpf .olt s.2.2.1 (Scalar.ofBits .f32 0x421C0000#32)) = 1#1

/-- The while loop from `s` with at most `n` passes. -/
def wrun (t : Fin k0_t1_loop.trips) (q : Vec F S128x96 .bf16) (tri : FVec F S256x256 .bf16) (sl ba : FVec F S128x128 .f32)
    (arg11 : Memref sig .tc .vmem S96x3072 .bf16) (X11 : BufTy.Contents (Elt F) arg11.view.ty)
    (arg12 : Memref sig .tc .vmem S3072x96 .bf16) (X12 : BufTy.Contents (Elt F) arg12.view.ty) : ℕ → St F → St F
  | 0, s => s
  | n + 1, s =>
    open Classical in
    if h : k0_chk1 s.1 then
      if wtest s then wrun t q tri sl ba arg11 X11 arg12 X12 n (wstep t q tri sl ba (kb arg11 X11 s.1 h) (vb arg12 X12 s.1 h) s)
      else s
    else s

/-- The block counter with `n` blocks still to visit. -/
def jw (n : ℕ) : BitVec 32 := BitVec.ofNat 32 n - 1#32

theorem chk1_jw : ∀ n : Fin 12, k0_chk1 (jw (n.val + 1)) := by decide
theorem chk2_jw : ∀ n : Fin 13, k0_chk2 (jw n.val) := by decide
theorem jw_sub : ∀ n : Fin 12, Scalar.subi (jw (n.val + 1)) 1#32 = jw n.val := by decide
theorem sge_jw_zero : ¬Scalar.cmpi .sge (jw 0) 0#32 = 1#1 := by decide

/-- The loop ends with some number of blocks still to visit. -/
theorem wrun_jw (t : Fin k0_t1_loop.trips) (q : Vec F S128x96 .bf16) (tri : FVec F S256x256 .bf16) (sl ba : FVec F S128x128 .f32)
    (arg11 : Memref sig .tc .vmem S96x3072 .bf16) (X11 : BufTy.Contents (Elt F) arg11.view.ty)
    (arg12 : Memref sig .tc .vmem S3072x96 .bf16) (X12 : BufTy.Contents (Elt F) arg12.view.ty) :
    ∀ (n : ℕ), n ≤ 12 → ∀ s : St F, s.1 = jw n →
      ∃ n' : Fin 13, (wrun t q tri sl ba arg11 X11 arg12 X12 n s).1 = jw n'.val := by
  intro n
  induction n with
  | zero => intro _ s hs; exact ⟨0, hs⟩
  | succ n ih =>
    intro hn s hs
    rw [wrun]
    split
    · split
      · exact ih (by omega) _ (by show Scalar.subi s.1 1#32 = _; rw [hs]; exact jw_sub ⟨n, by omega⟩)
      · exact ⟨⟨n + 1, by omega⟩, hs⟩
    · exact ⟨⟨n + 1, by omega⟩, hs⟩

section Label

variable (c : Dev nD) (i : grid0.Coords) (t : Fin k0_t1_loop.trips) (q : Vec F S128x96 .bf16) (tri : FVec F S256x256 .bf16)
  (sl ba : FVec F S128x128 .f32)
  (arg11 : Memref sig .tc .vmem S96x3072 .bf16) (harg11 : arg11.IsWhole) (X11 : BufTy.Contents (Elt F) arg11.view.ty)
  (arg12 : Memref sig .tc .vmem S3072x96 .bf16) (harg12 : arg12.IsWhole) (X12 : BufTy.Contents (Elt F) arg12.view.ty)

/-- The two scratch buffers the while loop reads. -/
def held : sProp 𝕄 :=
  iprop((arg11.view.loc (c : Thread nD τ) ↦[arg11.view.set]{fullShare} X11) ∗ (arg12.view.loc (c : Thread nD τ) ↦[arg12.view.set]{fullShare} X12))

/-- The while loop's specification: it reads the two buffers, leaves them, and returns the recursion's tuple. -/
def spec (r : St F) : sWPT 𝕄 (St F) := do
  sWPT.consume (held c arg11 X11 arg12 X12)
  sWPT.produce (held c arg11 X11 arg12 X12)
  pure (r.1, r.2.1, r.2.2.1, r.2.2.2.1, r.2.2.2.2.1, r.2.2.2.2.2)

theorem spec_apply (r : St F) (K : St F → sProp 𝕄) :
    spec c arg11 X11 arg12 X12 r K
      = iprop(held c arg11 X11 arg12 X12 ∗ (held c arg11 X11 arg12 X12 -∗ K (r.1, r.2.1, r.2.2.1, r.2.2.2.1, r.2.2.2.2.1, r.2.2.2.2.2))) := rfl

theorem spec_le (E : Set ℕ) :
    ∀ (n : ℕ), n ≤ 12 → ∀ s : St F, s.1 = jw n → ∀ K,
      spec c arg11 X11 arg12 X12 (wrun t q tri sl ba arg11 X11 arg12 X12 n s) K
      ⊢ wp frame (wpE (defs₀ (F := F)) Variants.nat (c : Thread nD τ) (some n)) E
          (defs₀ (F := F) .tc 1 ⟨i, t, arg11, harg11, q, tri, sl, ba, arg12, harg12, s.1, s.2.1, s.2.2.1, s.2.2.2.1, s.2.2.2.2.1, s.2.2.2.2.2⟩) K := by
  intro n
  induction n with
  | zero =>
    intro hn s hs K
    rw [spec_apply]
    show _ ⊢ wp frame (wpE (defs₀ (F := F)) Variants.nat (c : Thread nD τ) (some 0)) E
      (cc0_while1 i t arg11 harg11 q tri sl ba arg12 harg12 s.1 s.2.1 s.2.2.1 s.2.2.2.1 s.2.2.2.2.1 s.2.2.2.2.2) K
    rw [cc0_while1_eq_skeleton]; unfold cc0_while1_skel
    have htest : ¬Scalar.andi (Scalar.cmpi .sge s.1 0#32) (Scalar.cmpf .olt s.2.2.1 (Scalar.ofBits .f32 0x421C0000#32)) = 1#1 := by
      rw [hs]; intro h
      refine sge_jw_zero ?_
      revert h
      generalize Scalar.cmpi .sge (jw 0) 0#32 = a
      generalize (Scalar.cmpf .olt s.2.2.1 (Scalar.ofBits .f32 0x421C0000#32) : BitVec 1) = b
      revert a b; decide
    simp only [htest, ↓reduceIte, Prog.pure_eq_ret]
    rw [show wrun t q tri sl ba arg11 X11 arg12 X12 0 s = s from rfl]
    iintro ⟨H, Hk⟩
    rw [wp_ret]; imodintro
    iapply Hk
    iexact H
  | succ n ih =>
    intro hn s hs K
    rw [spec_apply]
    show _ ⊢ wp frame (wpE (defs₀ (F := F)) Variants.nat (c : Thread nD τ) (some (n + 1))) E
      (cc0_while1 i t arg11 harg11 q tri sl ba arg12 harg12 s.1 s.2.1 s.2.2.1 s.2.2.2.1 s.2.2.2.2.1 s.2.2.2.2.2) K
    rw [cc0_while1_eq_skeleton]; unfold cc0_while1_skel
    have hc : k0_chk1 s.1 := by rw [hs]; exact chk1_jw ⟨n, by omega⟩
    by_cases hw : wtest s
    · rw [show wrun t q tri sl ba arg11 X11 arg12 X12 (n + 1) s
        = wrun t q tri sl ba arg11 X11 arg12 X12 n (wstep t q tri sl ba (kb arg11 X11 s.1 hc) (vb arg12 X12 s.1 hc) s) by
          rw [wrun, dif_pos hc, if_pos hw]]
      have htest : Scalar.andi (Scalar.cmpi .sge s.1 0#32) (Scalar.cmpf .olt s.2.2.1 (Scalar.ofBits .f32 0x421C0000#32)) = 1#1 := hw
      simp only [htest, ↓reduceIte, k0_part5_eq_skeleton]
      unfold k0_part5_skel
      simp only [Prog.lift, Prog.bind_op, Prog.bind_ret, Prog.pure_eq_ret]
      unfold held
      iintro ⟨⟨Hx, Hw⟩, Hk⟩
      iapply (wp_assume Variants.nat (c : Thread nD τ) (some (n + 1)) E hc)
      iapply (wp_load Variants.nat (c : Thread nD τ) (some (n + 1)) E (m := arg11) (View.setOn_subset_set _ _)) $$ Hx; iintro Hx
      iapply (wp_load Variants.nat (c : Thread nD τ) (some (n + 1)) E (m := arg12) (View.setOn_subset_set _ _)) $$ Hw; iintro Hw
      iapply (wp_call_spec Variants.nat (c : Thread nD τ) (some (n + 1)) E
        (spec c arg11 X11 arg12 X12 (wrun t q tri sl ba arg11 X11 arg12 X12 n (wstep t q tri sl ba (kb arg11 X11 s.1 hc) (vb arg12 X12 s.1 hc) s))) n
        (fun u hu => by cases hu; exact Nat.lt_succ_self n)
        (ih (by omega) (wstep t q tri sl ba (kb arg11 X11 s.1 hc) (vb arg12 X12 s.1 hc) s)
          (by show Scalar.subi s.1 1#32 = _; rw [hs]; exact jw_sub ⟨n, by omega⟩)))
      rw [spec_apply]; unfold held
      isplitl [Hx Hw]
      · isplitl [Hx]; · iexact Hx
        iexact Hw
      iintro ⟨Hx, Hw⟩
      rw [wp_ret]; imodintro
      iapply Hk
      isplitl [Hx]; · iexact Hx
      iexact Hw
    · rw [show wrun t q tri sl ba arg11 X11 arg12 X12 (n + 1) s = s by rw [wrun, dif_pos hc, if_neg hw]]
      have htest : ¬Scalar.andi (Scalar.cmpi .sge s.1 0#32) (Scalar.cmpf .olt s.2.2.1 (Scalar.ofBits .f32 0x421C0000#32)) = 1#1 := hw
      simp only [htest, ↓reduceIte, Prog.pure_eq_ret]
      iintro ⟨H, Hk⟩
      rw [wp_ret]; imodintro
      iapply Hk
      iexact H

end Label

/-! ## The loop over query blocks -/

section Trip

/-- The first key block query block `t` visits, as the kernel computes it. -/
def j0 (t : Fin k0_t1_loop.trips) : BitVec 32 :=
  let v144 : BitVec 32 := Scalar.muli (Scf.iv 0#32 1#32 t) 128#32
  let v145 : BitVec 32 := Scalar.divsi v144 256#32
  let v146 : BitVec 1 := Scalar.cmpi .sgt v144 0#32
  let v147 : BitVec 32 := Scalar.extui v146
  let v148 : BitVec 1 := Scalar.cmpi .slt v144 0#32
  let v149 : BitVec 32 := Scalar.extui v148
  let v150 : BitVec 32 := Scalar.subi v147 v149
  let v151 : BitVec 1 := Scalar.cmpi .sgt 256#32 0#32
  let v152 : BitVec 32 := Scalar.extui v151
  let v153 : BitVec 1 := Scalar.cmpi .slt 256#32 0#32
  let v154 : BitVec 32 := Scalar.extui v153
  let v155 : BitVec 32 := Scalar.subi v152 v154
  let v156 : BitVec 1 := Scalar.cmpi .ne v150 v155
  let v157 : BitVec 32 := Scalar.remsi v144 256#32
  let v158 : BitVec 1 := Scalar.cmpi .ne v157 0#32
  let v159 : BitVec 1 := Scalar.andi v156 v158
  let v160 : BitVec 32 := Scalar.subi v145 1#32
  Scalar.select v159 v160 v145

/-- It is the block of the diagonal. -/
theorem j0_eq : ∀ t : Fin k0_t1_loop.trips, j0 t = jw (t.val / 2 + 1) := by decide

/-- Query block `t`, as the kernel reads it. -/
def qb (arg10 : Memref sig .tc .vmem S3072x96 .bf16) (X : BufTy.Contents (Elt F) arg10.view.ty) (t : Fin k0_t1_loop.trips) :
    Vec F S128x96 .bf16 :=
  arg10.view.readAt (Elt F) (Rect.unit (s := S3072x96) (k0_off4 t) S128x96.size (k0_off4_inb t)).toLoadRect X

/-- The position embedding, as the kernel reads it. -/
def peb (arg8 : Memref sig .tc .vmem S1x128x96 .bf16) (X : BufTy.Contents (Elt F) arg8.view.ty) : Vec F S1x128x96 .bf16 :=
  arg8.view.readAt (Elt F) (Rect.unit (s := S1x128x96) ![0, 0, 0] S1x128x96.size inb_S1x128x96_S1x128x96_0_0_0).toLoadRect X

/-- The lane numbers 0 to 127. -/
def lanes : IVec S128x128 32 := iota .tc S128x128 32 [1] iota_S128x128_d1_w32

/-- The while loop's tuple at its start. -/
def st0 (t : Fin k0_t1_loop.trips) : St F :=
  (j0 t, k0_pay29 (F := F), Scalar.ofBits .f32 0x00000000#32, k0_pay30 (F := F), k0_pay3 (F := F), k0_pay4 (F := F))

/-- The while loop's tuple at its end, for query block `t`. -/
def wend (v123 : IVec S128x128 32) (arg8 : Memref sig .tc .vmem S1x128x96 .bf16) (X8 : BufTy.Contents (Elt F) arg8.view.ty)
    (arg10 : Memref sig .tc .vmem S3072x96 .bf16) (X10 : BufTy.Contents (Elt F) arg10.view.ty)
    (arg11 : Memref sig .tc .vmem S96x3072 .bf16) (X11 : BufTy.Contents (Elt F) arg11.view.ty)
    (arg12 : Memref sig .tc .vmem S3072x96 .bf16) (X12 : BufTy.Contents (Elt F) arg12.view.ty) (t : Fin k0_t1_loop.trips) : St F :=
  wrun t (qb arg10 X10 t) k0_pay2 (k0_pay27 v123 (qb arg10 X10 t) (peb arg8 X8)) (k0_pay26 v123 (qb arg10 X10 t) (peb arg8 X8))
    arg11 X11 arg12 X12 (t.val / 2 + 1) (st0 t)

theorem chk2_wend (v123 : IVec S128x128 32) (arg8 : Memref sig .tc .vmem S1x128x96 .bf16) (X8 : BufTy.Contents (Elt F) arg8.view.ty)
    (arg10 : Memref sig .tc .vmem S3072x96 .bf16) (X10 : BufTy.Contents (Elt F) arg10.view.ty)
    (arg11 : Memref sig .tc .vmem S96x3072 .bf16) (X11 : BufTy.Contents (Elt F) arg11.view.ty)
    (arg12 : Memref sig .tc .vmem S3072x96 .bf16) (X12 : BufTy.Contents (Elt F) arg12.view.ty) (t : Fin k0_t1_loop.trips) :
    k0_chk2 (wend v123 arg8 X8 arg10 X10 arg11 X11 arg12 X12 t).1 := by
  have ht : t.val < 24 := Nat.lt_of_lt_of_le t.isLt k0_t1_abs.2.1
  obtain ⟨n', h⟩ := wrun_jw t (qb arg10 X10 t) k0_pay2 (k0_pay27 v123 (qb arg10 X10 t) (peb arg8 X8))
    (k0_pay26 v123 (qb arg10 X10 t) (peb arg8 X8)) arg11 X11 arg12 X12 (t.val / 2 + 1) (by omega) (st0 t) (j0_eq t)
  unfold wend; rw [h]; exact chk2_jw n'

/-- What one trip holds: the three scratch buffers and the embedding, read only, and the output's buffer. -/
abbrev Trip1 (c : Dev nD) (arg8 : Memref sig .tc .vmem S1x128x96 .bf16) (arg10 : Memref sig .tc .vmem S3072x96 .bf16)
    (arg11 : Memref sig .tc .vmem S96x3072 .bf16) (arg12 : Memref sig .tc .vmem S3072x96 .bf16) (arg9 : Memref sig .tc .vmem S1x1x96x3072 .bf16)
    (X8 : BufTy.Contents (Elt F) arg8.view.ty) (X10 : BufTy.Contents (Elt F) arg10.view.ty) (X11 : BufTy.Contents (Elt F) arg11.view.ty) (X12 : BufTy.Contents (Elt F) arg12.view.ty) (f9 : BufTy.Contents (Elt F) arg9.view.ty) : sProp 𝕄 :=
  iprop((arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg9.view.loc (c : Thread nD τ) ↦[arg9.view.set]{fullShare} f9))

set_option maxHeartbeats 1000000 in
/-- One trip over a query block: the while loop by its specification, the loops over the remaining blocks by their invariants, the
    output's block stored. -/
@[irreducible] def trip1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) :
    { L9 : List (View.Piece (Elt F) S1x1x96x3072 .bf16) // ∀ (E : Set ℕ) (f9 : BufTy.Contents (Elt F) arg9.view.ty),
      Trip1 (F := F) c arg8 arg10 arg11 arg12 arg9 X8 X10 X11 X12 f9
      ⊢ wp frame (wpE (defs₀ (F := F)) Variants.nat (c : Thread nD τ) none) E (k0_t1_body (F := F) i arg2 harg2 arg3 harg3 arg4 harg4 arg5 harg5 arg6 harg6 arg7 harg7 arg8 harg8 arg9 harg9 arg10 harg10 arg11 harg11 arg12 harg12 v123 k PUnit.unit)
          (fun _ => Trip1 (F := F) c arg8 arg10 arg11 arg12 arg9 X8 X10 X11 X12 (arg9.view.writes (Elt F) f9 L9)) } := by
  have hk : k.val < 24 := Nat.lt_of_lt_of_le k.isLt k0_t1_abs.2.1
  refine ⟨?_, fun E f9 => ?run⟩
  case run =>
    unfold k0_t1_body
    simp only [k0_part1_eq_skeleton]
    unfold k0_part1_skel
    simp only [Prog.lift, Prog.bind_op, Prog.bind_ret, Prog.pure_eq_ret]
    iintro ⟨H8, H10, H11, H12, H9⟩
    iapply (wp_load Variants.nat (c : Thread nD τ) none E (m := arg10) (View.setOn_subset_set _ _)) $$ H10; iintro H10
    iapply (wp_load Variants.nat (c : Thread nD τ) none E (m := arg8) (View.setOn_subset_set _ _)) $$ H8; iintro H8
    iapply (wp_call_spec Variants.nat (c : Thread nD τ) none E
      (spec c arg11 X11 arg12 X12 (wend v123 arg8 X8 arg10 X10 arg11 X11 arg12 X12 k)) (k.val / 2 + 1)
      (fun u hu => nomatch hu)
      (spec_le c i k (qb arg10 X10 k) k0_pay2 (k0_pay27 v123 (qb arg10 X10 k) (peb arg8 X8)) (k0_pay26 v123 (qb arg10 X10 k) (peb arg8 X8))
        arg11 harg11 X11 arg12 harg12 X12 E (k.val / 2 + 1) (by omega) (st0 k) (j0_eq k)))
    rw [spec_apply]; unfold held
    isplitl [H11 H12]
    · isplitl [H11]; · iexact H11
      iexact H12
    iintro ⟨H11, H12⟩
    iapply (wp_assume Variants.nat (c : Thread nD τ) none E (chk2_wend v123 arg8 X8 arg10 X10 arg11 X11 arg12 X12 k))
    sl_exec
    sl_step
    sl_close

/-- The trip's pieces. -/
abbrev tripL1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) : List (View.Piece (Elt F) S1x1x96x3072 .bf16) :=
  (trip1 (F := F) c i arg2 harg2 arg3 harg3 arg4 harg4 arg5 harg5 arg6 harg6 arg7 harg7 arg8 harg8 arg9 harg9 arg10 harg10 arg11 harg11 arg12 harg12 v123 X8 X10 X11 X12 k).1

/-- The pieces of the trips before `k`, last first. -/
def pb1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) : ℕ → List (View.Piece (Elt F) S1x1x96x3072 .bf16)
  | 0 => []
  | k + 1 => if h : k < k0_t1_loop.trips then
      (tripL1 (F := F) c i arg2 harg2 arg3 harg3 arg4 harg4 arg5 harg5 arg6 harg6 arg7 harg7 arg8 harg8 arg9 harg9 arg10 harg10 arg11 harg11 arg12 harg12 v123 X8 X10 X11 X12 ⟨k, h⟩) ++ pb1 c i arg2 harg2 arg3 harg3 arg4 harg4 arg5 harg5 arg6 harg6 arg7 harg7 arg8 harg8 arg9 harg9 arg10 harg10 arg11 harg11 arg12 harg12 v123 X8 X10 X11 X12 k
    else pb1 c i arg2 harg2 arg3 harg3 arg4 harg4 arg5 harg5 arg6 harg6 arg7 harg7 arg8 harg8 arg9 harg9 arg10 harg10 arg11 harg11 arg12 harg12 v123 X8 X10 X11 X12 k

theorem pb1_succ (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) :
    pb1 (F := F) c i arg2 harg2 arg3 harg3 arg4 harg4 arg5 harg5 arg6 harg6 arg7 harg7 arg8 harg8 arg9 harg9 arg10 harg10 arg11 harg11 arg12 harg12 v123 X8 X10 X11 X12 (k.val + 1) = (tripL1 (F := F) c i arg2 harg2 arg3 harg3 arg4 harg4 arg5 harg5 arg6 harg6 arg7 harg7 arg8 harg8 arg9 harg9 arg10 harg10 arg11 harg11 arg12 harg12 v123 X8 X10 X11 X12 k) ++ pb1 c i arg2 harg2 arg3 harg3 arg4 harg4 arg5 harg5 arg6 harg6 arg7 harg7 arg8 harg8 arg9 harg9 arg10 harg10 arg11 harg11 arg12 harg12 v123 X8 X10 X11 X12 k.val := by
  rw [pb1.eq_2]; exact dif_pos k.isLt

/-- The invariant before trip `k`: the buffers read at their contents, the output's holding the pieces of the trips before. -/
abbrev inv1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (G9 : BufTy.Contents (Elt F) arg9.view.ty) (k : ℕ) (_u : PUnit) : sProp 𝕄 :=
  iprop((arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg9.view.loc (c : Thread nD τ) ↦[arg9.view.set]{fullShare} f) ∗ ⌜f = arg9.view.writes (Elt F) G9 (pb1 (F := F) c i arg2 harg2 arg3 harg3 arg4 harg4 arg5 harg5 arg6 harg6 arg7 harg7 arg8 harg8 arg9 harg9 arg10 harg10 arg11 harg11 arg12 harg12 v123 X8 X10 X11 X12 k)⌝))

set_option warn.classDefReducibility false in
/-- The loop over query blocks by its invariant. -/
@[sl_loop] def loopInv1 (c : Dev nD) (E : Set ℕ) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (G9 : BufTy.Contents (Elt F) arg9.view.ty) :
    LoopInvTy_k0_t1 (F := F) Unit ℕ (UR sig nD τ) ℕ Variants.nat c none E i arg2 harg2 arg3 harg3 arg4 harg4 arg5 harg5 arg6 harg6 arg7 harg7 arg8 harg8 arg9 harg9 arg10 harg10 arg11 harg11 arg12 harg12 v123 where
  inv := inv1 (F := F) c i arg2 harg2 arg3 harg3 arg4 harg4 arg5 harg5 arg6 harg6 arg7 harg7 arg8 harg8 arg9 harg9 arg10 harg10 arg11 harg11 arg12 harg12 v123 X8 X10 X11 X12 G9
  step k acc := by
    iintro ⟨H8, H10, H11, H12, ⟨%f9, H9, %h9⟩⟩
    iapply (wp_wand_r Idealize.ShloMosaic.frame (wpE (defs₀ (F := F)) Variants.nat (c : Thread nD τ) none) E)
    isplitl [H8 H10 H11 H12 H9]
    · iapply ((trip1 (F := F) c i arg2 harg2 arg3 harg3 arg4 harg4 arg5 harg5 arg6 harg6 arg7 harg7 arg8 harg8 arg9 harg9 arg10 harg10 arg11 harg11 arg12 harg12 v123 X8 X10 X11 X12 k).2 E f9)
      isplitl [H8]; · iexact H8
      isplitl [H10]; · iexact H10
      isplitl [H11]; · iexact H11
      isplitl [H12]; · iexact H12
      iexact H9
    · iintro %_ ⟨H8, H10, H11, H12, H9⟩
      isplitl [H8]; · iexact H8
      isplitl [H10]; · iexact H10
      isplitl [H11]; · iexact H11
      isplitl [H12]; · iexact H12
      rw [pb1_succ]
      iexists _; isplitl [H9]; · iexact H9
      ipureintro; rw [h9, ← View.writes_append]

end Trip

end Cert.Proof.K

end
-- ==== Proof.K.Runs.lean ====
/-
  The program around its one region, and the blocks the windows read.
-/
module

public import proofs.«01_k».proof.Proof.K.Step
public import proofs.«01_k».proof.Proof.Gen.Kernel.Launch

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.K

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by exact (by decide : ∀ w, (spec0 w).arr.view.ref ≠ main_arg0)))).trans (W_main_arg0 m dats c)),
      (((h c).2 main_arg1 (Pipeline.mem_restRefs_of main_arg1 (by decide) (by exact (by decide : ∀ w, (spec0 w).arr.view.ref ≠ main_arg1)))).trans (W_main_arg1 m dats c)),
      (((h c).2 main_arg2 (Pipeline.mem_restRefs_of main_arg2 (by decide) (by exact (by decide : ∀ w, (spec0 w).arr.view.ref ≠ main_arg2)))).trans (W_main_arg2 m dats c)),
      (((h c).2 main_arg3 (Pipeline.mem_restRefs_of main_arg3 (by decide) (by exact (by decide : ∀ w, (spec0 w).arr.view.ref ≠ main_arg3)))).trans (W_main_arg3 m dats c)),
      (((h c).2 main_arg4 (Pipeline.mem_restRefs_of main_arg4 (by decide) (by exact (by decide : ∀ w, (spec0 w).arr.view.ref ≠ main_arg4)))).trans (W_main_arg4 m dats c)),
      (((h c).2 main_arg5 (Pipeline.mem_restRefs_of main_arg5 (by decide) (by exact (by decide : ∀ w, (spec0 w).arr.view.ref ≠ main_arg5)))).trans (W_main_arg5 m dats c)),
      (((h c).2 main_arg6 (Pipeline.mem_restRefs_of main_arg6 (by decide) (by exact (by decide : ∀ w, (spec0 w).arr.view.ref ≠ main_arg6)))).trans (W_main_arg6 m dats c))⟩) h

/-! ## The kernel body on any staging memrefs: a subtype the run finds -/

/-- One staging buffer of output window 7, through which its contents are stated (`View.read_writes_of_cover`: the
    choice does not matter). -/
abbrev VO0_7 : View sig .tc .vmem S1x1x96x3072 .bf16 := (Memref.whole cc0_stg7_0 : Memref sig .tc .vmem S1x1x96x3072 .bf16).view
/-- Each window's current staging memref at point `t`, spelled as the pipeline passes it (`bodyAt0`), and its wholeness. -/
abbrev ms0_0 (t : Fin (cfg0 (F := F)).N) : Memref sig .tc .vmem S1x1x96x3072 .fp8e4m3 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x1x96x3072 .fp8e4m3 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x1x96x3072 .fp8e4m3 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x3x24x3072 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x3x24x3072 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1x3x24x3072 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1x128x96 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S1x1x96x3072 .bf16 := win0_7.stage ((cfg0 (F := F)).slots t 7)
abbrev hs0_7 (t : Fin (cfg0 (F := F)).N) : (ms0_7 t).IsWhole := hstage0_7 (((cfg0 (F := F)).slots t 7).cast nbuf0_7)
/-- The scratch operands: whole scoped buffers of the kernel's own, passed beside the windows. -/
abbrev scM0_0 : Memref sig .tc .vmem S3072x96 .bf16 := Memref.whole cc0_scratch0
abbrev scM0_1 : Memref sig .tc .vmem S96x3072 .bf16 := Memref.whole cc0_scratch1
abbrev scM0_2 : Memref sig .tc .vmem S3072x96 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.K

end
-- ==== Proof.K.RunA.lean ====
/-
  The kernel's body at one grid point, run once: what its stores leave in the output's block.
-/
module

public import proofs.«01_k».proof.Proof.K.Runs

@[expose] public section

-- membership in a rectangle of production extents (`View.cover_of_tiled`): the elaborator's structural look
-- recurses once per coordinate of the long axes
set_option maxRecDepth 16384

noncomputable section

namespace Cert.Proof.K

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) :
    { L7 : List (View.Piece (Elt F) S1x1x96x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.nat c none) E (cc0_cope_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_cope_attention_eq_skeleton]; unfold cc0_cope_attention_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.K

end
-- ==== Proof.K.Frame.lean ====
/-
  The whole run of the program: it ends, leaves its arguments and semaphores as they were, and leaves its output array at the
  blocks the body wrote.
-/
module

public import proofs.«01_k».proof.Proof.K.RunA

public import Idealize.ShloMosaic.Lib.Claim

@[expose] public section

-- membership in a rectangle of production extents (`View.cover_of_tiled`): the elaborator's structural look
-- recurses once per coordinate of the long axes
set_option maxRecDepth 16384

noncomputable section

namespace Cert.Proof.K

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (24 stores of `S1x1x96x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) (y : S1x1x96x3072.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 x6).1 S1x1x96x128.size (by sl_kernel_rfl) y

/-- What the run leaves in output 7's staging buffer: its pieces read back over junk. -/
def out0_A_7 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) : Vec F S1x1x96x3072 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 x0 x1 x2 x3 x4 x5 x6).1)

/-! ## What the outputs hold after each point -/

/-- What the outputs' staging buffers hold after the body at point `t`: the run's contents at
    the point's memrefs and input blocks. -/
def outsAt0 (c : Dev nD) (t : Fin (cfg0 (F := F)).N) : Vec F S1x1x96x3072 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = (outsAt0 m c t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel`'s statement (Defs.lean) at any `F` —-/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.K

end
-- ==== Proof.KI.Step.lean ====
/-
  The kernel's loops: the while loop over key blocks met by a pure recursion on its carried tuple, and the loop over query
  blocks by its invariant (each trip writes one block of the output).
-/
module

public import proofs.«01_k».proof.Proof.Gen.KernelIdeal.Loops
public import proofs.«01_k».proof.Proof.Gen.KernelIdeal.Points
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The while loop's carried tuple: the key block still to visit, the cumulative gate of each row, its least value over the
    rows, and the running maximum, sum and weighted sum of the softmax. -/
abbrev St (F : FTy → Type) : Type :=
  BitVec 32 × FVec F S128x1 .f32 × F .f32 × FVec F S128x1 .f32 × FVec F S128x1 .f32 × FVec F S128x96 .f32

/-- Key block `j`, as the loop's body reads it. -/
def kb (arg11 : Memref sig .tc .vmem S96x3072 .bf16) (X : BufTy.Contents (Elt F) arg11.view.ty) (j : BitVec 32) (h : k0_chk1 j) :
    Vec F S96x256 .bf16 :=
  arg11.view.readAt (Elt F) (Rect.unit (s := S96x3072) (k0_off5 j) S96x256.size (k0_off5_inb j h)).toLoadRect X

/-- Value block `j`, as the loop's body reads it. -/
def vb (arg12 : Memref sig .tc .vmem S3072x96 .bf16) (X : BufTy.Contents (Elt F) arg12.view.ty) (j : BitVec 32) (h : k0_chk1 j) :
    Vec F S256x96 .bf16 :=
  arg12.view.readAt (Elt F) (Rect.unit (s := S3072x96) (k0_off6 j) S256x96.size (k0_off6_inb j h)).toLoadRect X

/-- The first row of query block `t`. -/
def row0 (t : Fin k0_t1_loop.trips) : BitVec 32 := Scalar.muli (Scf.iv 0#32 1#32 t) 128#32

/-- One pass of the while loop's body over a key block and its value block. -/
def wstep (t : Fin k0_t1_loop.trips) (q : Vec F S128x96 .bf16) (tri : FVec F S256x256 .bf16) (sl ba : FVec F S128x128 .f32)
    (KB : Vec F S96x256 .bf16) (VB : Vec F S256x96 .bf16) (s : St F) : St F :=
  (Scalar.subi s.1 1#32, k0_pay44 q tri s.1 s.2.1 (row0 t) KB, k0_pay24 (k0_pay44 q tri s.1 s.2.1 (row0 t) KB),
    k0_pay19 sl ba s.2.2.2.1 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB),
    k0_pay22 sl ba s.2.2.2.1 s.2.2.2.2.1 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB),
    k0_pay23 sl ba s.2.2.2.1 s.2.2.2.2.2 (k0_pay40 (row0 t)) (k0_pay41 s.1) (k0_pay42 q s.1 (row0 t) KB)
      (k0_pay45 q tri s.1 s.2.1 (row0 t) KB) (k0_pay46 q tri s.1 s.2.1 (row0 t) KB) (k0_pay47 q tri s.1 s.2.1 (row0 t) KB) VB)

/-- The while loop's test. -/
def wtest (s : St F) : Prop :=
  Scalar.andi (Scalar.cmpi .sge s.1 0#32) (Scalar.cmpf .olt s.2.2.1 (Scalar.ofBits .f32 0x421C0000#32)) = 1#1

/-- The while loop from `s` with at most `n` passes. -/
def wrun (t : Fin k0_t1_loop.trips) (q : Vec F S128x96 .bf16) (tri : FVec F S256x256 .bf16) (sl ba : FVec F S128x128 .f32)
    (arg11 : Memref sig .tc .vmem S96x3072 .bf16) (X11 : BufTy.Contents (Elt F) arg11.view.ty)
    (arg12 : Memref sig .tc .vmem S3072x96 .bf16) (X12 : BufTy.Contents (Elt F) arg12.view.ty) : ℕ → St F → St F
  | 0, s => s
  | n + 1, s =>
    open Classical in
    if h : k0_chk1 s.1 then
      if wtest s then wrun t q tri sl ba arg11 X11 arg12 X12 n (wstep t q tri sl ba (kb arg11 X11 s.1 h) (vb arg12 X12 s.1 h) s)
      else s
    else s

/-- The block counter with `n` blocks still to visit. -/
def jw (n : ℕ) : BitVec 32 := BitVec.ofNat 32 n - 1#32

theorem chk1_jw : ∀ n : Fin 12, k0_chk1 (jw (n.val + 1)) := by decide
theorem chk2_jw : ∀ n : Fin 13, k0_chk2 (jw n.val) := by decide
theorem jw_sub : ∀ n : Fin 12, Scalar.subi (jw (n.val + 1)) 1#32 = jw n.val := by decide
theorem sge_jw_zero : ¬Scalar.cmpi .sge (jw 0) 0#32 = 1#1 := by decide

/-- The loop ends with some number of blocks still to visit. -/
theorem wrun_jw (t : Fin k0_t1_loop.trips) (q : Vec F S128x96 .bf16) (tri : FVec F S256x256 .bf16) (sl ba : FVec F S128x128 .f32)
    (arg11 : Memref sig .tc .vmem S96x3072 .bf16) (X11 : BufTy.Contents (Elt F) arg11.view.ty)
    (arg12 : Memref sig .tc .vmem S3072x96 .bf16) (X12 : BufTy.Contents (Elt F) arg12.view.ty) :
    ∀ (n : ℕ), n ≤ 12 → ∀ s : St F, s.1 = jw n →
      ∃ n' : Fin 13, (wrun t q tri sl ba arg11 X11 arg12 X12 n s).1 = jw n'.val := by
  intro n
  induction n with
  | zero => intro _ s hs; exact ⟨0, hs⟩
  | succ n ih =>
    intro hn s hs
    rw [wrun]
    split
    · split
      · exact ih (by omega) _ (by show Scalar.subi s.1 1#32 = _; rw [hs]; exact jw_sub ⟨n, by omega⟩)
      · exact ⟨⟨n + 1, by omega⟩, hs⟩
    · exact ⟨⟨n + 1, by omega⟩, hs⟩

section Label

variable (c : Dev nD) (i : grid0.Coords) (t : Fin k0_t1_loop.trips) (q : Vec F S128x96 .bf16) (tri : FVec F S256x256 .bf16)
  (sl ba : FVec F S128x128 .f32)
  (arg11 : Memref sig .tc .vmem S96x3072 .bf16) (harg11 : arg11.IsWhole) (X11 : BufTy.Contents (Elt F) arg11.view.ty)
  (arg12 : Memref sig .tc .vmem S3072x96 .bf16) (harg12 : arg12.IsWhole) (X12 : BufTy.Contents (Elt F) arg12.view.ty)

/-- The two scratch buffers the while loop reads. -/
def held : sProp 𝕄 :=
  iprop((arg11.view.loc (c : Thread nD τ) ↦[arg11.view.set]{fullShare} X11) ∗ (arg12.view.loc (c : Thread nD τ) ↦[arg12.view.set]{fullShare} X12))

/-- The while loop's specification: it reads the two buffers, leaves them, and returns the recursion's tuple. -/
def spec (r : St F) : sWPT 𝕄 (St F) := do
  sWPT.consume (held c arg11 X11 arg12 X12)
  sWPT.produce (held c arg11 X11 arg12 X12)
  pure (r.1, r.2.1, r.2.2.1, r.2.2.2.1, r.2.2.2.2.1, r.2.2.2.2.2)

theorem spec_apply (r : St F) (K : St F → sProp 𝕄) :
    spec c arg11 X11 arg12 X12 r K
      = iprop(held c arg11 X11 arg12 X12 ∗ (held c arg11 X11 arg12 X12 -∗ K (r.1, r.2.1, r.2.2.1, r.2.2.2.1, r.2.2.2.2.1, r.2.2.2.2.2))) := rfl

theorem spec_le (E : Set ℕ) :
    ∀ (n : ℕ), n ≤ 12 → ∀ s : St F, s.1 = jw n → ∀ K,
      spec c arg11 X11 arg12 X12 (wrun t q tri sl ba arg11 X11 arg12 X12 n s) K
      ⊢ wp frame (wpE (defs₀ (F := F)) Variants.nat (c : Thread nD τ) (some n)) E
          (defs₀ (F := F) .tc 1 ⟨i, t, arg11, harg11, q, tri, sl, ba, arg12, harg12, s.1, s.2.1, s.2.2.1, s.2.2.2.1, s.2.2.2.2.1, s.2.2.2.2.2⟩) K := by
  intro n
  induction n with
  | zero =>
    intro hn s hs K
    rw [spec_apply]
    show _ ⊢ wp frame (wpE (defs₀ (F := F)) Variants.nat (c : Thread nD τ) (some 0)) E
      (cc0_while1 i t arg11 harg11 q tri sl ba arg12 harg12 s.1 s.2.1 s.2.2.1 s.2.2.2.1 s.2.2.2.2.1 s.2.2.2.2.2) K
    rw [cc0_while1_eq_skeleton]; unfold cc0_while1_skel
    have htest : ¬Scalar.andi (Scalar.cmpi .sge s.1 0#32) (Scalar.cmpf .olt s.2.2.1 (Scalar.ofBits .f32 0x421C0000#32)) = 1#1 := by
      rw [hs]; intro h
      refine sge_jw_zero ?_
      revert h
      generalize Scalar.cmpi .sge (jw 0) 0#32 = a
      generalize (Scalar.cmpf .olt s.2.2.1 (Scalar.ofBits .f32 0x421C0000#32) : BitVec 1) = b
      revert a b; decide
    simp only [htest, ↓reduceIte, Prog.pure_eq_ret]
    rw [show wrun t q tri sl ba arg11 X11 arg12 X12 0 s = s from rfl]
    iintro ⟨H, Hk⟩
    rw [wp_ret]; imodintro
    iapply Hk
    iexact H
  | succ n ih =>
    intro hn s hs K
    rw [spec_apply]
    show _ ⊢ wp frame (wpE (defs₀ (F := F)) Variants.nat (c : Thread nD τ) (some (n + 1))) E
      (cc0_while1 i t arg11 harg11 q tri sl ba arg12 harg12 s.1 s.2.1 s.2.2.1 s.2.2.2.1 s.2.2.2.2.1 s.2.2.2.2.2) K
    rw [cc0_while1_eq_skeleton]; unfold cc0_while1_skel
    have hc : k0_chk1 s.1 := by rw [hs]; exact chk1_jw ⟨n, by omega⟩
    by_cases hw : wtest s
    · rw [show wrun t q tri sl ba arg11 X11 arg12 X12 (n + 1) s
        = wrun t q tri sl ba arg11 X11 arg12 X12 n (wstep t q tri sl ba (kb arg11 X11 s.1 hc) (vb arg12 X12 s.1 hc) s) by
          rw [wrun, dif_pos hc, if_pos hw]]
      have htest : Scalar.andi (Scalar.cmpi .sge s.1 0#32) (Scalar.cmpf .olt s.2.2.1 (Scalar.ofBits .f32 0x421C0000#32)) = 1#1 := hw
      simp only [htest, ↓reduceIte, k0_part5_eq_skeleton]
      unfold k0_part5_skel
      simp only [Prog.lift, Prog.bind_op, Prog.bind_ret, Prog.pure_eq_ret]
      unfold held
      iintro ⟨⟨Hx, Hw⟩, Hk⟩
      iapply (wp_assume Variants.nat (c : Thread nD τ) (some (n + 1)) E hc)
      iapply (wp_load Variants.nat (c : Thread nD τ) (some (n + 1)) E (m := arg11) (View.setOn_subset_set _ _)) $$ Hx; iintro Hx
      iapply (wp_load Variants.nat (c : Thread nD τ) (some (n + 1)) E (m := arg12) (View.setOn_subset_set _ _)) $$ Hw; iintro Hw
      iapply (wp_call_spec Variants.nat (c : Thread nD τ) (some (n + 1)) E
        (spec c arg11 X11 arg12 X12 (wrun t q tri sl ba arg11 X11 arg12 X12 n (wstep t q tri sl ba (kb arg11 X11 s.1 hc) (vb arg12 X12 s.1 hc) s))) n
        (fun u hu => by cases hu; exact Nat.lt_succ_self n)
        (ih (by omega) (wstep t q tri sl ba (kb arg11 X11 s.1 hc) (vb arg12 X12 s.1 hc) s)
          (by show Scalar.subi s.1 1#32 = _; rw [hs]; exact jw_sub ⟨n, by omega⟩)))
      rw [spec_apply]; unfold held
      isplitl [Hx Hw]
      · isplitl [Hx]; · iexact Hx
        iexact Hw
      iintro ⟨Hx, Hw⟩
      rw [wp_ret]; imodintro
      iapply Hk
      isplitl [Hx]; · iexact Hx
      iexact Hw
    · rw [show wrun t q tri sl ba arg11 X11 arg12 X12 (n + 1) s = s by rw [wrun, dif_pos hc, if_neg hw]]
      have htest : ¬Scalar.andi (Scalar.cmpi .sge s.1 0#32) (Scalar.cmpf .olt s.2.2.1 (Scalar.ofBits .f32 0x421C0000#32)) = 1#1 := hw
      simp only [htest, ↓reduceIte, Prog.pure_eq_ret]
      iintro ⟨H, Hk⟩
      rw [wp_ret]; imodintro
      iapply Hk
      iexact H

end Label

/-! ## The loop over query blocks -/

section Trip

/-- The first key block query block `t` visits, as the kernel computes it. -/
def j0 (t : Fin k0_t1_loop.trips) : BitVec 32 :=
  let v144 : BitVec 32 := Scalar.muli (Scf.iv 0#32 1#32 t) 128#32
  let v145 : BitVec 32 := Scalar.divsi v144 256#32
  let v146 : BitVec 1 := Scalar.cmpi .sgt v144 0#32
  let v147 : BitVec 32 := Scalar.extui v146
  let v148 : BitVec 1 := Scalar.cmpi .slt v144 0#32
  let v149 : BitVec 32 := Scalar.extui v148
  let v150 : BitVec 32 := Scalar.subi v147 v149
  let v151 : BitVec 1 := Scalar.cmpi .sgt 256#32 0#32
  let v152 : BitVec 32 := Scalar.extui v151
  let v153 : BitVec 1 := Scalar.cmpi .slt 256#32 0#32
  let v154 : BitVec 32 := Scalar.extui v153
  let v155 : BitVec 32 := Scalar.subi v152 v154
  let v156 : BitVec 1 := Scalar.cmpi .ne v150 v155
  let v157 : BitVec 32 := Scalar.remsi v144 256#32
  let v158 : BitVec 1 := Scalar.cmpi .ne v157 0#32
  let v159 : BitVec 1 := Scalar.andi v156 v158
  let v160 : BitVec 32 := Scalar.subi v145 1#32
  Scalar.select v159 v160 v145

/-- It is the block of the diagonal. -/
theorem j0_eq : ∀ t : Fin k0_t1_loop.trips, j0 t = jw (t.val / 2 + 1) := by decide

/-- Query block `t`, as the kernel reads it. -/
def qb (arg10 : Memref sig .tc .vmem S3072x96 .bf16) (X : BufTy.Contents (Elt F) arg10.view.ty) (t : Fin k0_t1_loop.trips) :
    Vec F S128x96 .bf16 :=
  arg10.view.readAt (Elt F) (Rect.unit (s := S3072x96) (k0_off4 t) S128x96.size (k0_off4_inb t)).toLoadRect X

/-- The position embedding, as the kernel reads it. -/
def peb (arg8 : Memref sig .tc .vmem S1x128x96 .bf16) (X : BufTy.Contents (Elt F) arg8.view.ty) : Vec F S1x128x96 .bf16 :=
  arg8.view.readAt (Elt F) (Rect.unit (s := S1x128x96) ![0, 0, 0] S1x128x96.size inb_S1x128x96_S1x128x96_0_0_0).toLoadRect X

/-- The lane numbers 0 to 127. -/
def lanes : IVec S128x128 32 := iota .tc S128x128 32 [1] iota_S128x128_d1_w32

/-- The while loop's tuple at its start. -/
def st0 (t : Fin k0_t1_loop.trips) : St F :=
  (j0 t, k0_pay29 (F := F), Scalar.ofBits .f32 0x00000000#32, k0_pay30 (F := F), k0_pay3 (F := F), k0_pay4 (F := F))

/-- The while loop's tuple at its end, for query block `t`. -/
def wend (v123 : IVec S128x128 32) (arg8 : Memref sig .tc .vmem S1x128x96 .bf16) (X8 : BufTy.Contents (Elt F) arg8.view.ty)
    (arg10 : Memref sig .tc .vmem S3072x96 .bf16) (X10 : BufTy.Contents (Elt F) arg10.view.ty)
    (arg11 : Memref sig .tc .vmem S96x3072 .bf16) (X11 : BufTy.Contents (Elt F) arg11.view.ty)
    (arg12 : Memref sig .tc .vmem S3072x96 .bf16) (X12 : BufTy.Contents (Elt F) arg12.view.ty) (t : Fin k0_t1_loop.trips) : St F :=
  wrun t (qb arg10 X10 t) k0_pay2 (k0_pay27 v123 (qb arg10 X10 t) (peb arg8 X8)) (k0_pay26 v123 (qb arg10 X10 t) (peb arg8 X8))
    arg11 X11 arg12 X12 (t.val / 2 + 1) (st0 t)

theorem chk2_wend (v123 : IVec S128x128 32) (arg8 : Memref sig .tc .vmem S1x128x96 .bf16) (X8 : BufTy.Contents (Elt F) arg8.view.ty)
    (arg10 : Memref sig .tc .vmem S3072x96 .bf16) (X10 : BufTy.Contents (Elt F) arg10.view.ty)
    (arg11 : Memref sig .tc .vmem S96x3072 .bf16) (X11 : BufTy.Contents (Elt F) arg11.view.ty)
    (arg12 : Memref sig .tc .vmem S3072x96 .bf16) (X12 : BufTy.Contents (Elt F) arg12.view.ty) (t : Fin k0_t1_loop.trips) :
    k0_chk2 (wend v123 arg8 X8 arg10 X10 arg11 X11 arg12 X12 t).1 := by
  have ht : t.val < 24 := Nat.lt_of_lt_of_le t.isLt k0_t1_abs.2.1
  obtain ⟨n', h⟩ := wrun_jw t (qb arg10 X10 t) k0_pay2 (k0_pay27 v123 (qb arg10 X10 t) (peb arg8 X8))
    (k0_pay26 v123 (qb arg10 X10 t) (peb arg8 X8)) arg11 X11 arg12 X12 (t.val / 2 + 1) (by omega) (st0 t) (j0_eq t)
  unfold wend; rw [h]; exact chk2_jw n'

/-- What one trip holds: the three scratch buffers and the embedding, read only, and the output's buffer. -/
abbrev Trip1 (c : Dev nD) (arg8 : Memref sig .tc .vmem S1x128x96 .bf16) (arg10 : Memref sig .tc .vmem S3072x96 .bf16)
    (arg11 : Memref sig .tc .vmem S96x3072 .bf16) (arg12 : Memref sig .tc .vmem S3072x96 .bf16) (arg9 : Memref sig .tc .vmem S1x1x96x3072 .bf16)
    (X8 : BufTy.Contents (Elt F) arg8.view.ty) (X10 : BufTy.Contents (Elt F) arg10.view.ty) (X11 : BufTy.Contents (Elt F) arg11.view.ty) (X12 : BufTy.Contents (Elt F) arg12.view.ty) (f9 : BufTy.Contents (Elt F) arg9.view.ty) : sProp 𝕄 :=
  iprop((arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg9.view.loc (c : Thread nD τ) ↦[arg9.view.set]{fullShare} f9))

set_option maxHeartbeats 1000000 in
/-- One trip over a query block: the while loop by its specification, the loops over the remaining blocks by their invariants, the
    output's block stored. -/
@[irreducible] def trip1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) :
    { L9 : List (View.Piece (Elt F) S1x1x96x3072 .bf16) // ∀ (E : Set ℕ) (f9 : BufTy.Contents (Elt F) arg9.view.ty),
      Trip1 (F := F) c arg8 arg10 arg11 arg12 arg9 X8 X10 X11 X12 f9
      ⊢ wp frame (wpE (defs₀ (F := F)) Variants.nat (c : Thread nD τ) none) E (k0_t1_body (F := F) i arg2 harg2 arg3 harg3 arg4 harg4 arg5 harg5 arg6 harg6 arg7 harg7 arg8 harg8 arg9 harg9 arg10 harg10 arg11 harg11 arg12 harg12 v123 k PUnit.unit)
          (fun _ => Trip1 (F := F) c arg8 arg10 arg11 arg12 arg9 X8 X10 X11 X12 (arg9.view.writes (Elt F) f9 L9)) } := by
  have hk : k.val < 24 := Nat.lt_of_lt_of_le k.isLt k0_t1_abs.2.1
  refine ⟨?_, fun E f9 => ?run⟩
  case run =>
    unfold k0_t1_body
    simp only [k0_part1_eq_skeleton]
    unfold k0_part1_skel
    simp only [Prog.lift, Prog.bind_op, Prog.bind_ret, Prog.pure_eq_ret]
    iintro ⟨H8, H10, H11, H12, H9⟩
    iapply (wp_load Variants.nat (c : Thread nD τ) none E (m := arg10) (View.setOn_subset_set _ _)) $$ H10; iintro H10
    iapply (wp_load Variants.nat (c : Thread nD τ) none E (m := arg8) (View.setOn_subset_set _ _)) $$ H8; iintro H8
    iapply (wp_call_spec Variants.nat (c : Thread nD τ) none E
      (spec c arg11 X11 arg12 X12 (wend v123 arg8 X8 arg10 X10 arg11 X11 arg12 X12 k)) (k.val / 2 + 1)
      (fun u hu => nomatch hu)
      (spec_le c i k (qb arg10 X10 k) k0_pay2 (k0_pay27 v123 (qb arg10 X10 k) (peb arg8 X8)) (k0_pay26 v123 (qb arg10 X10 k) (peb arg8 X8))
        arg11 harg11 X11 arg12 harg12 X12 E (k.val / 2 + 1) (by omega) (st0 k) (j0_eq k)))
    rw [spec_apply]; unfold held
    isplitl [H11 H12]
    · isplitl [H11]; · iexact H11
      iexact H12
    iintro ⟨H11, H12⟩
    iapply (wp_assume Variants.nat (c : Thread nD τ) none E (chk2_wend v123 arg8 X8 arg10 X10 arg11 X11 arg12 X12 k))
    sl_exec
    sl_step
    sl_close

/-- The trip's pieces. -/
abbrev tripL1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) : List (View.Piece (Elt F) S1x1x96x3072 .bf16) :=
  (trip1 (F := F) c i arg2 harg2 arg3 harg3 arg4 harg4 arg5 harg5 arg6 harg6 arg7 harg7 arg8 harg8 arg9 harg9 arg10 harg10 arg11 harg11 arg12 harg12 v123 X8 X10 X11 X12 k).1

/-- The pieces of the trips before `k`, last first. -/
def pb1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) : ℕ → List (View.Piece (Elt F) S1x1x96x3072 .bf16)
  | 0 => []
  | k + 1 => if h : k < k0_t1_loop.trips then
      (tripL1 (F := F) c i arg2 harg2 arg3 harg3 arg4 harg4 arg5 harg5 arg6 harg6 arg7 harg7 arg8 harg8 arg9 harg9 arg10 harg10 arg11 harg11 arg12 harg12 v123 X8 X10 X11 X12 ⟨k, h⟩) ++ pb1 c i arg2 harg2 arg3 harg3 arg4 harg4 arg5 harg5 arg6 harg6 arg7 harg7 arg8 harg8 arg9 harg9 arg10 harg10 arg11 harg11 arg12 harg12 v123 X8 X10 X11 X12 k
    else pb1 c i arg2 harg2 arg3 harg3 arg4 harg4 arg5 harg5 arg6 harg6 arg7 harg7 arg8 harg8 arg9 harg9 arg10 harg10 arg11 harg11 arg12 harg12 v123 X8 X10 X11 X12 k

theorem pb1_succ (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (k : Fin k0_t1_loop.trips) :
    pb1 (F := F) c i arg2 harg2 arg3 harg3 arg4 harg4 arg5 harg5 arg6 harg6 arg7 harg7 arg8 harg8 arg9 harg9 arg10 harg10 arg11 harg11 arg12 harg12 v123 X8 X10 X11 X12 (k.val + 1) = (tripL1 (F := F) c i arg2 harg2 arg3 harg3 arg4 harg4 arg5 harg5 arg6 harg6 arg7 harg7 arg8 harg8 arg9 harg9 arg10 harg10 arg11 harg11 arg12 harg12 v123 X8 X10 X11 X12 k) ++ pb1 c i arg2 harg2 arg3 harg3 arg4 harg4 arg5 harg5 arg6 harg6 arg7 harg7 arg8 harg8 arg9 harg9 arg10 harg10 arg11 harg11 arg12 harg12 v123 X8 X10 X11 X12 k.val := by
  rw [pb1.eq_2]; exact dif_pos k.isLt

/-- The invariant before trip `k`: the buffers read at their contents, the output's holding the pieces of the trips before. -/
abbrev inv1 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (G9 : BufTy.Contents (Elt F) arg9.view.ty) (k : ℕ) (_u : PUnit) : sProp 𝕄 :=
  iprop((arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg9.view.loc (c : Thread nD τ) ↦[arg9.view.set]{fullShare} f) ∗ ⌜f = arg9.view.writes (Elt F) G9 (pb1 (F := F) c i arg2 harg2 arg3 harg3 arg4 harg4 arg5 harg5 arg6 harg6 arg7 harg7 arg8 harg8 arg9 harg9 arg10 harg10 arg11 harg11 arg12 harg12 v123 X8 X10 X11 X12 k)⌝))

set_option warn.classDefReducibility false in
/-- The loop over query blocks by its invariant. -/
@[sl_loop] def loopInv1 (c : Dev nD) (E : Set ℕ) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole) (v123 : IVec S128x128 32) (X8 : BufTy.Contents (Elt F) arg8.view.ty) (X10 : BufTy.Contents (Elt F) arg10.view.ty) (X11 : BufTy.Contents (Elt F) arg11.view.ty) (X12 : BufTy.Contents (Elt F) arg12.view.ty) (G9 : BufTy.Contents (Elt F) arg9.view.ty) :
    LoopInvTy_k0_t1 (F := F) Unit ℕ (UR sig nD τ) ℕ Variants.nat c none E i arg2 harg2 arg3 harg3 arg4 harg4 arg5 harg5 arg6 harg6 arg7 harg7 arg8 harg8 arg9 harg9 arg10 harg10 arg11 harg11 arg12 harg12 v123 where
  inv := inv1 (F := F) c i arg2 harg2 arg3 harg3 arg4 harg4 arg5 harg5 arg6 harg6 arg7 harg7 arg8 harg8 arg9 harg9 arg10 harg10 arg11 harg11 arg12 harg12 v123 X8 X10 X11 X12 G9
  step k acc := by
    iintro ⟨H8, H10, H11, H12, ⟨%f9, H9, %h9⟩⟩
    iapply (wp_wand_r Idealize.ShloMosaic.frame (wpE (defs₀ (F := F)) Variants.nat (c : Thread nD τ) none) E)
    isplitl [H8 H10 H11 H12 H9]
    · iapply ((trip1 (F := F) c i arg2 harg2 arg3 harg3 arg4 harg4 arg5 harg5 arg6 harg6 arg7 harg7 arg8 harg8 arg9 harg9 arg10 harg10 arg11 harg11 arg12 harg12 v123 X8 X10 X11 X12 k).2 E f9)
      isplitl [H8]; · iexact H8
      isplitl [H10]; · iexact H10
      isplitl [H11]; · iexact H11
      isplitl [H12]; · iexact H12
      iexact H9
    · iintro %_ ⟨H8, H10, H11, H12, H9⟩
      isplitl [H8]; · iexact H8
      isplitl [H10]; · iexact H10
      isplitl [H11]; · iexact H11
      isplitl [H12]; · iexact H12
      rw [pb1_succ]
      iexists _; isplitl [H9]; · iexact H9
      ipureintro; rw [h9, ← View.writes_append]

end Trip

end Cert.Proof.KI

end
-- ==== Proof.KI.Runs.lean ====
/-
  The program around its one region, and the blocks the windows read.
-/
module

public import proofs.«01_k».proof.Proof.KI.Step
public import proofs.«01_k».proof.Proof.Gen.KernelIdeal.Launch

public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by exact (by decide : ∀ w, (spec0 w).arr.view.ref ≠ main_arg0)))).trans (W_main_arg0 m dats c)),
      (((h c).2 main_arg1 (Pipeline.mem_restRefs_of main_arg1 (by decide) (by exact (by decide : ∀ w, (spec0 w).arr.view.ref ≠ main_arg1)))).trans (W_main_arg1 m dats c)),
      (((h c).2 main_arg2 (Pipeline.mem_restRefs_of main_arg2 (by decide) (by exact (by decide : ∀ w, (spec0 w).arr.view.ref ≠ main_arg2)))).trans (W_main_arg2 m dats c)),
      (((h c).2 main_arg3 (Pipeline.mem_restRefs_of main_arg3 (by decide) (by exact (by decide : ∀ w, (spec0 w).arr.view.ref ≠ main_arg3)))).trans (W_main_arg3 m dats c)),
      (((h c).2 main_arg4 (Pipeline.mem_restRefs_of main_arg4 (by decide) (by exact (by decide : ∀ w, (spec0 w).arr.view.ref ≠ main_arg4)))).trans (W_main_arg4 m dats c)),
      (((h c).2 main_arg5 (Pipeline.mem_restRefs_of main_arg5 (by decide) (by exact (by decide : ∀ w, (spec0 w).arr.view.ref ≠ main_arg5)))).trans (W_main_arg5 m dats c)),
      (((h c).2 main_arg6 (Pipeline.mem_restRefs_of main_arg6 (by decide) (by exact (by decide : ∀ w, (spec0 w).arr.view.ref ≠ main_arg6)))).trans (W_main_arg6 m dats c))⟩) h

/-! ## The kernel body on any staging memrefs: a subtype the run finds -/

/-- One staging buffer of output window 7, through which its contents are stated (`View.read_writes_of_cover`: the
    choice does not matter). -/
abbrev VO0_7 : View sig .tc .vmem S1x1x96x3072 .bf16 := (Memref.whole cc0_stg7_0 : Memref sig .tc .vmem S1x1x96x3072 .bf16).view
/-- Each window's current staging memref at point `t`, spelled as the pipeline passes it (`bodyAt0`), and its wholeness. -/
abbrev ms0_0 (t : Fin (cfg0 (F := F)).N) : Memref sig .tc .vmem S1x1x96x3072 .fp8e4m3 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x1x96x3072 .fp8e4m3 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x1x96x3072 .fp8e4m3 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x3x24x3072 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x3x24x3072 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1x3x24x3072 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1x128x96 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S1x1x96x3072 .bf16 := win0_7.stage ((cfg0 (F := F)).slots t 7)
abbrev hs0_7 (t : Fin (cfg0 (F := F)).N) : (ms0_7 t).IsWhole := hstage0_7 (((cfg0 (F := F)).slots t 7).cast nbuf0_7)
/-- The scratch operands: whole scoped buffers of the kernel's own, passed beside the windows. -/
abbrev scM0_0 : Memref sig .tc .vmem S3072x96 .bf16 := Memref.whole cc0_scratch0
abbrev scM0_1 : Memref sig .tc .vmem S96x3072 .bf16 := Memref.whole cc0_scratch1
abbrev scM0_2 : Memref sig .tc .vmem S3072x96 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.KI

end
-- ==== Proof.KI.RunA.lean ====
/-
  The kernel's body at one grid point, run once: what its stores leave in the output's block.
-/
module

public import proofs.«01_k».proof.Proof.KI.Runs

@[expose] public section

-- membership in a rectangle of production extents (`View.cover_of_tiled`): the elaborator's structural look
-- recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) :
    { L7 : List (View.Piece (Elt F) S1x1x96x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.nat c none) E (cc0_cope_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_cope_attention_eq_skeleton]; unfold cc0_cope_attention_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.KI

end
-- ==== Proof.KI.Frame.lean ====
/-
  The whole run of the program: it ends, leaves its arguments and semaphores as they were, and leaves its output array at the
  blocks the body wrote.
-/
module

public import proofs.«01_k».proof.Proof.KI.RunA

public import Idealize.ShloMosaic.Lib.Claim

@[expose] public section

-- membership in a rectangle of production extents (`View.cover_of_tiled`): the elaborator's structural look
-- recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 7 tile its block (24 stores of `S1x1x96x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) (y : S1x1x96x3072.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 x6).1 S1x1x96x128.size (by sl_kernel_rfl) y

/-- What the run leaves in output 7's staging buffer: its pieces read back over junk. -/
def out0_A_7 (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
    (x0 : Vec F S1x1x96x3072 .fp8e4m3) (x1 : Vec F S1x1x96x3072 .fp8e4m3) (x2 : Vec F S1x1x96x3072 .fp8e4m3) (x3 : Vec F S1x3x24x3072 .f32) (x4 : Vec F S1x3x24x3072 .f32) (x5 : Vec F S1x3x24x3072 .f32) (x6 : Vec F S1x128x96 .bf16) : Vec F S1x1x96x3072 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 x0 x1 x2 x3 x4 x5 x6).1)

/-! ## What the outputs hold after each point -/

/-- What the outputs' staging buffers hold after the body at point `t`: the run's contents at
    the point's memrefs and input blocks. -/
def outsAt0 (c : Dev nD) (t : Fin (cfg0 (F := F)).N) : Vec F S1x1x96x3072 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = (outsAt0 m c t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` —-/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.KI

end
-- ==== Proof.Val.Spec.lean ====
/-
  The mathematics both programs compute, for one head over the reals: scores, gates and their suffix sums, the position term
  interpolated between neighbouring embeddings, and the softmax over the columns up to the row.
-/
module

public import Idealize.ShloMosaic.PureOps.Ideal.Laws
public import Mathlib.Analysis.SpecialFunctions.Pow.Real
public import Mathlib.Analysis.SpecialFunctions.Log.Basic

@[expose] public section

noncomputable section

namespace Cert.Proof.Cope

open Idealize.ShloMosaic

section Head

variable (q k : Fin 3072 → Fin 96 → ℝ) (v : Fin 3072 → Fin 96 → EReal) (pe : ℕ → Fin 96 → ℝ)

/-- The scaled score of row `i` and column `c`. -/
def sc (i c : Fin 3072) : ℝ := (∑ d, q i d * k c d) / Real.sqrt 96

/-- The gate: the logistic of the score, nothing right of the diagonal. -/
def gate (i c : Fin 3072) : ℝ := if c ≤ i then (1 + Real.exp (-sc q k i c))⁻¹ else 0

/-- The gates of row `i` summed from column `n` on. -/
def cum (i : Fin 3072) (n : ℕ) : ℝ := ∑ c : Fin 3072, if n ≤ c.val then gate q k i c else 0

/-- The position: the suffix sum, at most 39. -/
def pos (i c : Fin 3072) : ℝ := min (cum q k i c.val) 39

/-- Its integer part, at most 38. -/
def flr (i c : Fin 3072) : ℕ := min ⌊pos q k i c⌋₊ 38

/-- The row's product with embedding `n`. -/
def zz (i : Fin 3072) (n : ℕ) : ℝ := ∑ d, q i d * pe n d

/-- The position term: linear between the two neighbouring embeddings. -/
def rr (i c : Fin 3072) : ℝ :=
  (1 - (pos q k i c - (flr q k i c : ℝ))) * zz q pe i (flr q k i c)
    + (pos q k i c - (flr q k i c : ℝ)) * zz q pe i (flr q k i c + 1)

/-- The logit. -/
def lg (i c : Fin 3072) : ℝ := sc q k i c + rr q k pe i c

/-- The softmax over the columns up to the row. -/
def prob (i c : Fin 3072) : ℝ :=
  (if c ≤ i then Real.exp (lg q k pe i c) else 0) / ∑ c : Fin 3072, if c ≤ i then Real.exp (lg q k pe i c) else 0

/-- The result: the softmax against the values. -/
def out (i : Fin 3072) (d : Fin 96) : EReal := ∑ c : Fin 3072, (prob q k pe i c : EReal) * v c d

theorem gate_nonneg (i c : Fin 3072) : 0 ≤ gate q k i c := by
  unfold gate; split
  · have := Real.exp_pos (-sc q k i c); positivity
  · exact le_rfl

theorem cum_nonneg (i : Fin 3072) (n : ℕ) : 0 ≤ cum q k i n :=
  Finset.sum_nonneg fun c _ => by split; exacts [gate_nonneg q k i c, le_rfl]

theorem cum_anti (i : Fin 3072) {n n' : ℕ} (h : n ≤ n') : cum q k i n' ≤ cum q k i n :=
  Finset.sum_le_sum fun c _ => by
    by_cases h1 : n' ≤ c.val
    · rw [if_pos h1, if_pos (h.trans h1)]
    · rw [if_neg h1]; split; exacts [gate_nonneg q k i c, le_rfl]

theorem pos_nonneg (i c : Fin 3072) : 0 ≤ pos q k i c := le_min (cum_nonneg q k i c.val) (by norm_num)

theorem pos_le (i c : Fin 3072) : pos q k i c ≤ 39 := min_le_right _ _

/-- Beyond the row there is nothing to sum. -/
theorem cum_zero (i : Fin 3072) (n : ℕ) (h : i.val < n) : cum q k i n = 0 :=
  Finset.sum_eq_zero fun c _ => by
    split
    · exact if_neg (by rw [Fin.le_def]; omega)
    · rfl

/-- The suffix sum split at a block of 256 columns. -/
theorem cum_block (i : Fin 3072) (j : ℕ) (hj : j < 12) (u : Fin 256) :
    cum q k i (256 * j + u.val)
      = (∑ x : Fin 256, gate q k i ⟨256 * j + x.val, by omega⟩ * if u.val ≤ x.val then 1 else 0) + cum q k i (256 * (j + 1)) := by
  have e : ∀ c : Fin 3072, (if 256 * j + u.val ≤ c.val then gate q k i c else 0)
      = (if 256 * j ≤ c.val ∧ c.val < 256 * (j + 1) then (if 256 * j + u.val ≤ c.val then gate q k i c else 0) else 0)
        + if 256 * (j + 1) ≤ c.val then gate q k i c else 0 := by
    intro c
    by_cases h1 : 256 * (j + 1) ≤ c.val
    · rw [if_pos (by omega), if_neg (by omega), if_pos h1, zero_add]
    · rw [if_neg h1, add_zero]
      by_cases h2 : 256 * j ≤ c.val
      · rw [if_pos (c := 256 * j ≤ c.val ∧ _) ⟨h2, by omega⟩]
      · rw [if_neg (by omega), if_neg (by omega)]
  unfold cum
  rw [Finset.sum_congr rfl fun c _ => e c, Finset.sum_add_distrib]
  congr 1
  refine (Finset.sum_of_injOn (fun x : Fin 256 => (⟨256 * j + x.val, by omega⟩ : Fin 3072)) ?_ ?_ ?_ ?_).symm
  · intro x _ y _ h
    have := congrArg Fin.val h
    simp only at this
    exact Fin.ext (by omega)
  · exact fun _ _ => Finset.mem_coe.mpr (Finset.mem_univ _)
  · intro c _ hc
    refine if_neg fun h => hc ⟨⟨c.val - 256 * j, by omega⟩, by simp, Fin.ext ?_⟩
    show 256 * j + (c.val - 256 * j) = c.val
    omega
  · intro x _
    rw [if_pos (c := 256 * j ≤ _ ∧ _) ⟨by simp, by simp only; omega⟩]
    by_cases h : u.val ≤ x.val
    · rw [if_pos h, mul_one, if_pos (by simp only; omega)]
    · rw [if_neg h, mul_zero, if_neg (by simp only; omega)]

/-! ## The softmax taken block by block -/

/-- A running maximum, sum and weighted sum over the columns `T` of a row with exponents `a` (base two): nothing yet, or taken
    relative to some real maximum. -/
def Good (a : Fin 3072 → ℝ) (v : Fin 3072 → Fin 96 → EReal) (T : Finset (Fin 3072)) (m l : EReal) (acc : Fin 96 → EReal) : Prop :=
  (T = ∅ ∧ m = ⊥ ∧ l = 0 ∧ ∀ d, acc d = 0) ∨
    ∃ M : ℝ, m = (M : EReal) ∧ l = ((∑ c ∈ T, (2 : ℝ) ^ (a c - M) : ℝ) : EReal)
      ∧ ∀ d, acc d = ∑ c ∈ T, (((2 : ℝ) ^ (a c - M) : ℝ) : EReal) * v c d

/-- A sum times a number that is not negative: the sum of the products, infinities included. -/
theorem sum_mul_coe {ι : Type*} (s : Finset ι) (f : ι → EReal) {r : ℝ} (hr : 0 ≤ r) :
    (∑ x ∈ s, f x) * (r : EReal) = ∑ x ∈ s, f x * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

theorem coe_sum {ι : Type*} (s : Finset ι) (f : ι → ℝ) : ((∑ x ∈ s, f x : ℝ) : EReal) = ∑ x ∈ s, (f x : EReal) := by
  classical
  induction s using Finset.induction_on with
  | empty => simp
  | insert x s hx ih => rw [Finset.sum_insert hx, Finset.sum_insert hx, EReal.coe_add, ih]

theorem sum_step {α : Type*} [AddCommMonoid α] {T T' : Finset (Fin 3072)} {e : Fin 256 → Fin 3072} (he : Function.Injective e) {P : Fin 256 → Prop}
    [DecidablePred P] (hd : ∀ u, P u → e u ∉ T) (hT : ∀ c, c ∈ T' ↔ c ∈ T ∨ ∃ u, P u ∧ e u = c) (f : Fin 3072 → α) :
    ∑ c ∈ T', f c = ∑ c ∈ T, f c + ∑ u, if P u then f (e u) else 0 := by
  classical
  have h : T' = T ∪ (Finset.univ.filter P).map ⟨e, he⟩ := by
    ext c; rw [hT]; simp
  rw [h, Finset.sum_union, Finset.sum_map, Finset.sum_filter]
  · rfl
  · rw [Finset.disjoint_left]
    intro c hc hc'
    simp only [Finset.mem_map, Finset.mem_filter, Finset.mem_univ, true_and, Function.Embedding.coeFn_mk] at hc'
    obtain ⟨u, hu, rfl⟩ := hc'
    exact hd u hu hc

/-- One block of 256 columns added to the running softmax. -/
theorem good_step {a : Fin 3072 → ℝ} {v : Fin 3072 → Fin 96 → EReal} {T T' : Finset (Fin 3072)} {m l : EReal} {acc : Fin 96 → EReal}
    (hG : Good a v T m l acc) {e : Fin 256 → Fin 3072} (he : Function.Injective e) {P : Fin 256 → Prop}
    [DecidablePred P] (hd : ∀ u, P u → e u ∉ T) (hT : ∀ c, c ∈ T' ↔ c ∈ T ∨ ∃ u, P u ∧ e u = c) (hne : m ≠ ⊥ ∨ ∃ u, P u)
    {w : Fin 256 → EReal} (hw : ∀ u, w u = if P u then ((a (e u) : ℝ) : EReal) else ⊥)
    {V : Fin 256 → Fin 96 → EReal} (hV : ∀ u d, V u d = v (e u) d)
    {m' l' : EReal} {acc' : Fin 96 → EReal} (hm' : m' = max m (Finset.univ.fold max ⊥ w))
    (hl' : l' = l * Ideal.exp2 (m - m') + ∑ u, Ideal.exp2 (w u - m'))
    (hacc' : ∀ d, acc' d = acc d * Ideal.exp2 (m - m') + ∑ u, Ideal.exp2 (w u - m') * V u d) :
    Good a v T' m' l' acc' := by
  have hmt : m ≠ ⊤ := by
    rcases hG with ⟨_, h, _⟩ | ⟨M, h, _⟩ <;> rw [h] <;> simp
  have h1 : m' ≠ ⊤ := by
    rw [hm', ← lt_top_iff_ne_top]
    refine max_lt (lt_top_iff_ne_top.mpr hmt) ((Finset.fold_max_lt _).mpr ⟨bot_lt_top, fun u _ => ?_⟩)
    rw [hw]; split
    · exact EReal.coe_lt_top _
    · exact bot_lt_top
  have h2 : m' ≠ ⊥ := by
    rw [hm']
    rcases hne with h | ⟨u, hu⟩
    · exact fun h' => h (le_bot_iff.mp (h' ▸ le_max_left _ _))
    · intro h'
      have : w u ≤ ⊥ := h' ▸ (((Finset.le_fold_max (w u)).mpr (Or.inr ⟨u, Finset.mem_univ u, le_rfl⟩)).trans (le_max_right _ _))
      rw [hw, if_pos hu] at this
      exact absurd (le_bot_iff.mp this) (EReal.coe_ne_bot _)
  obtain ⟨M, hM⟩ : ∃ M : ℝ, m' = (M : EReal) := ⟨m'.toReal, (EReal.coe_toReal h1 h2).symm⟩
  have hexp : ∀ u, Ideal.exp2 (w u - m') = ((if P u then (2 : ℝ) ^ (a (e u) - M) else 0 : ℝ) : EReal) := by
    intro u
    rw [hw, hM]; split
    · rw [← EReal.coe_sub, Ideal.exp2_coe]; rfl
    · rw [EReal.bot_sub, Ideal.exp2_bot]; rfl
  have hold : l * Ideal.exp2 (m - m') = ((∑ c ∈ T, (2 : ℝ) ^ (a c - M) : ℝ) : EReal)
      ∧ ∀ d, acc d * Ideal.exp2 (m - m') = ∑ c ∈ T, (((2 : ℝ) ^ (a c - M) : ℝ) : EReal) * v c d := by
    rcases hG with ⟨rfl, h, rfl, h0⟩ | ⟨M0, h, rfl, h0⟩
    · simp [h0]
    · have hx : ∀ c, (2 : ℝ) ^ (a c - M) = (2 : ℝ) ^ (a c - M0) * (2 : ℝ) ^ (M0 - M) := fun c => by
        rw [← Real.rpow_add (by norm_num)]; congr 1; ring
      have hy : Ideal.exp2 (m - m') = (((2 : ℝ) ^ (M0 - M) : ℝ) : EReal) := by
        rw [h, hM, ← EReal.coe_sub, Ideal.exp2_coe]; rfl
      refine ⟨?_, fun d => ?_⟩
      · rw [hy, ← EReal.coe_mul, Finset.sum_mul]
        simp only [hx]
      · rw [hy, h0, sum_mul_coe _ _ (Real.rpow_pos_of_pos (by norm_num) _).le]
        exact Finset.sum_congr rfl fun c _ => by rw [hx, EReal.coe_mul, mul_right_comm]
  refine Or.inr ⟨M, hM, ?_, fun d => ?_⟩
  · rw [hl', hold.1, sum_step he hd hT, EReal.coe_add, coe_sum Finset.univ]
    congr 1
    exact Finset.sum_congr rfl fun u _ => hexp u
  · rw [hacc', hold.2, sum_step he hd hT]
    congr 1
    refine Finset.sum_congr rfl fun u _ => ?_
    rw [hexp, hV]
    split
    · rfl
    · rw [EReal.coe_zero, zero_mul]

/-- Over all columns up to the row the quotient is the softmax. -/
theorem good_out {i : Fin 3072} {m l : EReal} {acc : Fin 96 → EReal}
    (hG : Good (fun c => lg q k pe i c / Real.log 2) v (Finset.univ.filter (· ≤ i)) m l acc) (d : Fin 96) :
    Ideal.div (acc d) l = out q k v pe i d := by
  have hi : i ∈ Finset.univ.filter (· ≤ i) := by simp
  rcases hG with ⟨h, _⟩ | ⟨M, _, hl, ha⟩
  · rw [h] at hi; simp at hi
  · have hlog : Real.log 2 ≠ 0 := (Real.log_pos (by norm_num)).ne'
    have hx : ∀ c, (2 : ℝ) ^ (lg q k pe i c / Real.log 2 - M) = Real.exp (lg q k pe i c) * (2 : ℝ) ^ (-M) := fun c => by
      rw [sub_eq_add_neg, Real.rpow_add (by norm_num)]
      congr 1
      rw [Real.rpow_def_of_pos (by norm_num)]
      congr 1
      field_simp
    have hp : (2 : ℝ) ^ (-M) ≠ 0 := (Real.rpow_pos_of_pos (by norm_num) _).ne'
    have hs : (∑ c ∈ Finset.univ.filter (· ≤ i), Real.exp (lg q k pe i c)) ≠ 0 :=
      (Finset.sum_pos (fun c _ => Real.exp_pos _) ⟨i, hi⟩).ne'
    have hl2 : l = (((∑ c ∈ Finset.univ.filter (· ≤ i), Real.exp (lg q k pe i c)) * (2 : ℝ) ^ (-M) : ℝ) : EReal) := by
      rw [hl, Finset.sum_mul]; simp only [hx]
    have hq : (∑ c ∈ Finset.univ.filter (· ≤ i), Real.exp (lg q k pe i c)) = ∑ c, if c ≤ i then Real.exp (lg q k pe i c) else 0 :=
      Finset.sum_filter _ _
    have hn : 0 ≤ 1 / ((∑ c ∈ Finset.univ.filter (· ≤ i), Real.exp (lg q k pe i c)) * (2 : ℝ) ^ (-M)) :=
      one_div_nonneg.mpr (mul_nonneg (Finset.sum_nonneg fun c _ => (Real.exp_pos _).le) (Real.rpow_pos_of_pos (by norm_num) _).le)
    rw [ha, hl2, Ideal.div_coe (mul_ne_zero hs hp), sum_mul_coe _ _ hn, Finset.sum_filter]
    unfold out
    refine Finset.sum_congr rfl fun c _ => ?_
    unfold prob
    rw [← hq]
    split
    · rw [mul_right_comm, ← EReal.coe_mul, hx]
      congr 2
      field_simp
    · rw [zero_div, EReal.coe_zero, zero_mul]

end Head

end Cert.Proof.Cope

end
-- ==== Proof.Val.Pay.lean ====
/-
  What the kernel's arithmetic is worth over the extended reals, on real blocks of queries, keys, values and embeddings.
-/
module

public import proofs.«01_k».proof.Proof.KI.Step
public import proofs.«01_k».proof.Proof.Val.Spec
public import Idealize.ShloMosaic.Lib.Pointwise
public import Idealize.ShloMosaic.Lib.WordCmp

@[expose] public section

noncomputable section

namespace Cert.Proof.KI

open Cert.KernelIdeal Cert.KernelIdeal.Gen Cert.Proof.Cope
open Idealize.ShloMosaic

theorem t_lt (t : Fin k0_t1_loop.trips) : t.val < 24 := Nat.lt_of_lt_of_le t.isLt k0_t1_abs.2.1

/-- Row `r` of query block `t`. -/
def row (t : Fin k0_t1_loop.trips) (r : Fin 128) : Fin 3072 := ⟨128 * t.val + r.val, by have := t_lt t; omega⟩

/-- Column `u` of key block `n`. -/
def col (n : ℕ) (hn : n < 12) (u : Fin 256) : Fin 3072 := ⟨256 * n + u.val, by omega⟩

theorem row0_eq : ∀ t : Fin k0_t1_loop.trips, row0 t = BitVec.ofNat 32 (128 * t.val) := by decide

theorem jw_succ : ∀ n : Fin 12, jw (n.val + 1) = BitVec.ofNat 32 n.val := by decide

theorem mask_eq : (Named.named κ "mask" 4048155338#32 : Ideal .f32) = (⊥ : EReal) := rfl
theorem log2e_eq : (Named.named κ "log2e" 1069066811#32 : Ideal .f32) = (((Real.log 2)⁻¹ : ℝ) : EReal) := rfl
theorem score_eq : (Named.named κ "score_log2e" 1041680192#32 : Ideal .f32)
    = (((Real.sqrt 96)⁻¹ * (Real.log 2)⁻¹ : ℝ) : EReal) := rfl

theorem pos_log : Real.log 2 ≠ 0 := (Real.log_pos (by norm_num)).ne'

section Read

variable (sl ba : FVec Ideal S128x128 .f32) (m l : FVec Ideal S128x1 .f32) (acc : FVec Ideal S128x96 .f32) (R C : IVec S128x256 32)
  (X P : FVec Ideal S128x256 .f32) (N : IVec S128x256 32) (N1 : IVec S128x128 32) (V : Vec Ideal S256x96 .bf16) (r : Fin 128)

theorem pay18_read (u : Fin 256) :
    k0_pay18 sl ba R C X P N N1 (ix2 r u) =
      Scalar.select (IntOp.cmpi .sle (C (ix2 r u)) (R (ix2 r u)))
        (X (ix2 r u) +
          if h : u.val < 128 then
            sl (ix2 r ⟨(N1 (ix2 r ⟨u.val, h⟩)).toNat % 128, Nat.mod_lt _ (by norm_num)⟩)
              + P (ix2 r u) * ba (ix2 r ⟨(N (ix2 r u)).toNat % 128, Nat.mod_lt _ (by norm_num)⟩)
          else
            sl (ix2 r ⟨(N (ix2 r ⟨128 + (u.val - 128), by omega⟩)).toNat % 128, Nat.mod_lt _ (by norm_num)⟩)
              + P (ix2 r ⟨128 + (u.val - 128), by omega⟩)
                * ba (ix2 r ⟨(N (ix2 r ⟨128 + (u.val - 128), by omega⟩)).toNat % 128, Nat.mod_lt _ (by norm_num)⟩))
        (⊥ : EReal) := by
  pointwise [k0_pay18]
  rfl

theorem ofBits_ninf : Ideal.ofBits FTy.f32 4286578688#32 = (⊥ : EReal) := by
  simp [Ideal.ofBits, Ideal.ieee, -EReal.coe_mul]
  try norm_num

theorem pay19_read :
    k0_pay19 sl ba m R C X P N N1 (ix2 r 0)
      = max (m (ix2 r 0)) (Finset.univ.fold max ⊥ fun u => k0_pay18 sl ba R C X P N N1 (ix2 r u)) := by
  pointwise [k0_pay19]
  rw [ofBits_ninf]

theorem pay22_read :
    k0_pay22 sl ba m l R C X P N N1 (ix2 r 0)
      = l (ix2 r 0) * Ideal.exp2 (m (ix2 r 0) - k0_pay19 sl ba m R C X P N N1 (ix2 r 0))
        + ∑ u, Ideal.exp2 (k0_pay18 sl ba R C X P N N1 (ix2 r u) - k0_pay19 sl ba m R C X P N N1 (ix2 r 0)) := by
  pointwise [k0_pay22, k0_pay20, k0_pay21]
  rfl

theorem pay23_read (d : Fin 96) :
    k0_pay23 sl ba m acc R C X P N N1 V (ix2 r d)
      = acc (ix2 r d) * Ideal.exp2 (m (ix2 r 0) - k0_pay19 sl ba m R C X P N N1 (ix2 r 0))
        + ∑ u, Ideal.exp2 (k0_pay18 sl ba R C X P N N1 (ix2 r u) - k0_pay19 sl ba m R C X P N N1 (ix2 r 0)) * V (ix2 u d) := by
  pointwise [k0_pay23, k0_pay20, k0_pay21, dot_S128x256_S256x96_S128x96_1_0_0_1_n_n]
  rfl

end Read

section Block

variable {q k : Fin 3072 → Fin 96 → ℝ} {v : Fin 3072 → Fin 96 → EReal} {pe : ℕ → Fin 96 → ℝ}
variable {t : Fin k0_t1_loop.trips} {Q : Vec Ideal S128x96 .bf16} (hQ : ∀ r d, Q (ix2 r d) = ((q (row t r) d : ℝ) : EReal))
variable {n : ℕ} {hn : n < 12} {K : Vec Ideal S96x256 .bf16} (hK : ∀ d u, K (ix2 d u) = ((k (col n hn u) d : ℝ) : EReal))

include hQ hK in
theorem dot_real (r : Fin 128) (u : Fin 256) :
    ∑ d, Q (ix2 r d) * K (ix2 d u) = ((∑ d, q (row t r) d * k (col n hn u) d : ℝ) : EReal) := by
  rw [coe_sum]
  exact Finset.sum_congr rfl fun d _ => by rw [hQ, hK, EReal.coe_mul]

theorem below_iff (r : Fin 128) (u : Fin 256) :
    (IntOp.cmpi .sle (k0_pay41 (jw (n + 1)) (ix2 r u)) (k0_pay40 (row0 t) (ix2 r u)) = 1#1) ↔ col n hn u ≤ row t r := by
  have ht := t_lt t
  pointwise [k0_pay41, k0_pay40]
  rw [row0_eq, jw_succ ⟨n, hn⟩]
  show IntOp.cmpi .sle (IntOp.addi (IntOp.muli (BitVec.ofNat 32 n) (BitVec.ofNat 32 256)) (BitVec.ofNat 32 u.val))
    (IntOp.addi (BitVec.ofNat 32 (128 * t.val)) (BitVec.ofNat 32 r.val)) = 1#1 ↔ _
  rw [WordCmp.muli_ofNat, WordCmp.addi_ofNat, WordCmp.addi_ofNat,
    WordCmp.cmpi_sle_ofNat_eq_one_iff (by norm_num; omega) (by norm_num; omega), Fin.le_def]
  show n * 256 + u.val ≤ _ ↔ 256 * n + u.val ≤ _
  rw [mul_comm]; rfl

theorem select_below {α : Type} (r : Fin 128) (u : Fin 256) (x y : α) :
    Scalar.select (IntOp.cmpi .sle (k0_pay41 (jw (n + 1)) (ix2 r u)) (k0_pay40 (row0 t) (ix2 r u))) x y
      = if col n hn u ≤ row t r then x else y := by
  by_cases h : col n hn u ≤ row t r
  · rw [if_pos h, (below_iff r u).mpr h]; rfl
  · rw [if_neg h]
    have h' := mt (below_iff (t := t) (n := n) (hn := hn) r u).mp h
    revert h'
    generalize IntOp.cmpi .sle (k0_pay41 (jw (n + 1)) (ix2 r u)) (k0_pay40 (row0 t) (ix2 r u)) = b
    intro hb
    have : b = 0#1 := by revert b; decide
    rw [this]; rfl

include hQ hK in
theorem score_real (r : Fin 128) (u : Fin 256) :
    (∑ d, Q (ix2 r d) * K (ix2 d u)) * (((Real.sqrt 96)⁻¹ * (Real.log 2)⁻¹ : ℝ) : EReal)
      = ((sc q k (row t r) (col n hn u) / Real.log 2 : ℝ) : EReal) := by
  rw [dot_real hQ hK, ← EReal.coe_mul]
  congr 1
  unfold sc
  rw [div_eq_mul_inv, div_eq_mul_inv, mul_assoc]

include hQ hK in
theorem pay42_real (r : Fin 128) (u : Fin 256) :
    k0_pay42 Q (jw (n + 1)) (row0 t) K (ix2 r u)
      = if col n hn u ≤ row t r then ((sc q k (row t r) (col n hn u) / Real.log 2 : ℝ) : EReal) else ⊥ := by
  pointwise [k0_pay42, dot_S128x96_S96x256_S128x256_1_0_0_1_n_n]
  rw [select_below (hn := hn), score_eq, score_real hQ hK, mask_eq]

include hQ hK in
theorem gate_real (r : Fin 128) (u : Fin 256) :
    Ideal.div 1 (1 + FloatOps.exp2 (F := Ideal) (φ := .f32) (0 - k0_pay42 Q (jw (n + 1)) (row0 t) K (ix2 r u)))
      = ((gate q k (row t r) (col n hn u) : ℝ) : EReal) := by
  rw [pay42_real hQ hK]
  unfold gate
  split
  · set s := sc q k (row t r) (col n hn u)
    have h1 : FloatOps.exp2 (F := Ideal) (φ := .f32) (0 - ((s / Real.log 2 : ℝ) : EReal)) = ((Real.exp (-s) : ℝ) : EReal) := by
      rw [zero_sub, ← EReal.coe_neg]
      show Ideal.exp2 _ = _
      rw [Ideal.exp2_coe]
      congr 1
      show (2 : ℝ) ^ (-(s / Real.log 2)) = _
      rw [Real.rpow_def_of_pos (by norm_num)]
      congr 1
      have := pos_log
      field_simp
    have h2 : (1 : ℝ) + Real.exp (-s) ≠ 0 := by have := Real.exp_pos (-s); positivity
    rw [h1, show (1 : EReal) + ((Real.exp (-s) : ℝ) : EReal) = ((1 + Real.exp (-s) : ℝ) : EReal) from by
      rw [EReal.coe_add]; rfl, Ideal.div_coe h2, one_mul, one_div]
  · have h1 : FloatOps.exp2 (F := Ideal) (φ := .f32) (0 - (⊥ : EReal)) = ⊤ := by
      rw [zero_sub, EReal.neg_bot]; rfl
    rw [h1]
    show Ideal.div 1 (1 + ⊤) = _
    rw [show (1 : EReal) + ⊤ = ⊤ from rfl]
    unfold Ideal.div
    rw [if_neg (by simp), EReal.inv_top, mul_zero]
    rfl

theorem tri_real (x u : Fin 256) :
    (k0_pay2 (F := Ideal) (ix2 x u)) = (((if u.val ≤ x.val then 1 else 0 : ℝ)) : EReal) := by
  pointwise [k0_pay2]
  have := x.isLt; have := u.isLt
  by_cases h : u.val ≤ x.val
  · rw [(WordCmp.cmpi_sge_ofNat_eq_one_iff (by norm_num; omega) (by norm_num; omega)).mpr h, if_pos h]
    show (((BitVec.setWidth 32 1#1).toInt : ℝ) : EReal) = _
    norm_num
  · rw [(WordCmp.cmpi_sge_ofNat_eq_zero_iff (by norm_num; omega) (by norm_num; omega)).mpr h, if_neg h]
    show (((BitVec.setWidth 32 0#1).toInt : ℝ) : EReal) = _
    norm_num

variable {C : FVec Ideal S128x1 .f32} (hC : ∀ r, C (ix2 r 0) = ((cum q k (row t r) (256 * (n + 1)) : ℝ) : EReal))

include hQ hK hC in
theorem pay43_real (r : Fin 128) (u : Fin 256) :
    k0_pay43 Q (k0_pay2 (F := Ideal)) (jw (n + 1)) C (row0 t) K (ix2 r u)
      = ((cum q k (row t r) (256 * n + u.val) : ℝ) : EReal) := by
  pointwise [k0_pay43, dot_S128x256_S256x256_S128x256_1_0_0_1_n_n]
  simp only [gate_real hQ hK (hn := hn), hC, tri_real, ← EReal.coe_sub, sub_self]
  rw [cum_block q k (row t r) n hn u]
  simp only [← EReal.coe_mul, ← coe_sum, ← EReal.coe_add]
  congr 1
  simp only [zero_mul, Finset.sum_const_zero, zero_add]
  rfl

include hQ hK hC in
theorem pay44_real (r : Fin 128) :
    k0_pay44 Q (k0_pay2 (F := Ideal)) (jw (n + 1)) C (row0 t) K (ix2 r 0)
      = ((cum q k (row t r) (256 * n) : ℝ) : EReal) := by
  pointwise [k0_pay44]
  exact pay43_real (hn := hn) hQ hK hC r 0

theorem ofBits_39 : Ideal.ofBits FTy.f32 1109131264#32 = ((39 : ℝ) : EReal) := by
  simp [Ideal.ofBits, Ideal.ieee, -EReal.coe_mul]
  try norm_num

include hQ hK hC in
theorem pay45_real (r : Fin 128) (u : Fin 256) :
    k0_pay45 Q (k0_pay2 (F := Ideal)) (jw (n + 1)) C (row0 t) K (ix2 r u)
      = ((pos q k (row t r) (col n hn u) : ℝ) : EReal) := by
  pointwise [k0_pay45]
  rw [pay43_real (hn := hn) hQ hK hC, ofBits_39]
  unfold pos
  exact (EReal.coe_strictMono.monotone.map_min).symm

theorem index_real (i c : Fin 3072) :
    IntOp.minsi (FloatOps.fptosi (F := Ideal) (φ := .f32) 32 ((pos q k i c : ℝ) : EReal)) 38#32 = BitVec.ofNat 32 (flr q k i c) := by
  have h0 := pos_nonneg q k i c
  have h1 := pos_le q k i c
  have h2 : ⌊pos q k i c⌋₊ ≤ 39 := Nat.floor_le_of_le (by exact_mod_cast h1)
  have h3 : FloatOps.fptosi (F := Ideal) (φ := .f32) 32 ((pos q k i c : ℝ) : EReal) = BitVec.ofNat 32 ⌊pos q k i c⌋₊ := by
    show Ideal.fptosi 32 _ = _
    unfold Ideal.fptosi
    rw [Ideal.toIntClamped_coe, if_pos h0, ← Int.natCast_floor_eq_floor h0]
    rw [max_eq_right (by norm_num), min_eq_right (by norm_num; omega)]
    exact BitVec.ofInt_natCast _ _
  rw [h3]
  unfold flr
  generalize ⌊pos q k i c⌋₊ = x at h2
  interval_cases x <;> rfl

theorem index_toNat (i c : Fin 3072) : (BitVec.ofNat 32 (flr q k i c)).toNat % 128 = flr q k i c := by
  have : flr q k i c ≤ 38 := min_le_right _ _
  rw [BitVec.toNat_ofNat]; omega

variable {P : Vec Ideal S1x128x96 .bf16} (hP : ∀ n d, P (ix3 0 n d) = ((pe n.val d : ℝ) : EReal))

include hQ hP in
theorem pay25_real (r n : Fin 128) :
    k0_pay25 Q P (ix2 r n) = ((zz q pe (row t r) n.val / Real.log 2 : ℝ) : EReal) := by
  pointwise [k0_pay25, dot_S128x96_S96x128_S128x128_1_0_0_1_n_n]
  rw [log2e_eq, show (∑ d, Q (ix2 r d) * P (ix3 0 n d)) = ((zz q pe (row t r) n.val : ℝ) : EReal) from by
    unfold zz; rw [coe_sum]; exact Finset.sum_congr rfl fun d _ => by rw [hQ, hP, EReal.coe_mul], ← EReal.coe_mul, div_eq_mul_inv]

include hQ hP in
theorem pay28_real (r : Fin 128) :
    k0_pay28 Q P (ix2 r 0) = ((zz q pe (row t r) 39 / Real.log 2 : ℝ) : EReal) := by
  pointwise [k0_pay28]
  exact pay25_real hQ hP r 39

include hQ hP in
theorem pay26_real (r n : Fin 128) (h : n.val < 39) :
    k0_pay26 lanes Q P (ix2 r n)
      = ((zz q pe (row t r) (n.val + 1) / Real.log 2 - zz q pe (row t r) n.val / Real.log 2 : ℝ) : EReal) := by
  pointwise [k0_pay26, lanes]
  rw [(WordCmp.cmpi_slt_ofNat_eq_one_iff (w := 32) (a := n.val) (b := 39) (by norm_num; omega) (by norm_num)).mpr h]
  rw [pay25_real hQ hP, pay25_real hQ hP, ← EReal.coe_sub]
  show (_ : EReal) = _
  have : (n.val + 128 - 127) % 128 = n.val + 1 := by omega
  simp only [this]
  rfl

include hQ hP in
theorem pay27_real (r n : Fin 128) (h : n.val < 39) :
    k0_pay27 lanes Q P (ix2 r n)
      = ((zz q pe (row t r) n.val / Real.log 2
          - (n.val : ℝ) * (zz q pe (row t r) (n.val + 1) / Real.log 2 - zz q pe (row t r) n.val / Real.log 2) : ℝ) : EReal) := by
  pointwise [k0_pay27]
  rw [pay26_real hQ hP r n h, pay25_real hQ hP]
  have e : FloatOps.sitofp (F := Ideal) FTy.f32 (lanes (ix2 r n)) = ((n.val : ℝ) : EReal) := by
    pointwise [lanes]
    show (((BitVec.ofNat 32 n.val).toInt : ℝ) : EReal) = _
    rw [BitVec.toInt_eq_toNat_of_lt (by rw [BitVec.toNat_ofNat]; omega), BitVec.toNat_ofNat, Nat.mod_eq_of_lt (by omega)]
    norm_num
  rw [e, ← EReal.coe_mul, ← EReal.coe_sub]

include hQ hP in
/-- The table's base plus position times slope is the interpolated position term. -/
theorem table_real (r : Fin 128) (c : Fin 3072) (N : ℕ) (hN : N = flr q k (row t r) c) (h : N < 128) :
    k0_pay27 lanes Q P (ix2 r ⟨N, h⟩) + ((pos q k (row t r) c : ℝ) : EReal) * k0_pay26 lanes Q P (ix2 r ⟨N, h⟩)
      = ((rr q k pe (row t r) c / Real.log 2 : ℝ) : EReal) := by
  have h39 : N < 39 := by rw [hN]; exact Nat.lt_succ_of_le (min_le_right _ _)
  rw [pay27_real hQ hP r ⟨N, h⟩ h39, pay26_real hQ hP r ⟨N, h⟩ h39, ← EReal.coe_mul, ← EReal.coe_add]
  congr 1
  unfold rr
  rw [← hN]
  have := pos_log
  field_simp
  ring

include hQ hK hC hP in
theorem pay18_real (r : Fin 128) (u : Fin 256) :
    k0_pay18 (k0_pay27 lanes Q P) (k0_pay26 lanes Q P) (k0_pay40 (row0 t)) (k0_pay41 (jw (n + 1))) (k0_pay42 Q (jw (n + 1)) (row0 t) K)
        (k0_pay45 Q (k0_pay2 (F := Ideal)) (jw (n + 1)) C (row0 t) K) (k0_pay46 Q (k0_pay2 (F := Ideal)) (jw (n + 1)) C (row0 t) K)
        (k0_pay47 Q (k0_pay2 (F := Ideal)) (jw (n + 1)) C (row0 t) K) (ix2 r u)
      = if col n hn u ≤ row t r then ((lg q k pe (row t r) (col n hn u) / Real.log 2 : ℝ) : EReal) else ⊥ := by
  have e46 : ∀ u : Fin 256, k0_pay46 Q (k0_pay2 (F := Ideal)) (jw (n + 1)) C (row0 t) K (ix2 r u)
      = BitVec.ofNat 32 (flr q k (row t r) (col n hn u)) := by
    intro u
    pointwise [k0_pay46]
    rw [pay45_real (hn := hn) hQ hK hC]
    exact index_real _ _
  have e47 : ∀ u : Fin 128, k0_pay47 Q (k0_pay2 (F := Ideal)) (jw (n + 1)) C (row0 t) K (ix2 r u)
      = BitVec.ofNat 32 (flr q k (row t r) (col n hn ⟨u.val, by omega⟩)) := by
    intro u
    pointwise [k0_pay47]
    exact e46 _
  rw [pay18_read, select_below (hn := hn), pay42_real (hn := hn) hQ hK]
  by_cases h : col n hn u ≤ row t r
  · rw [if_pos h, if_pos h, if_pos h]
    split
    · rename_i h1
      rw [e46, e47 ⟨u.val, h1⟩, pay45_real (hn := hn) hQ hK hC, table_real hQ hP r (col n hn u) _ (index_toNat _ _) _, ← EReal.coe_add]
      congr 1
      unfold lg
      rw [add_div]
    · have hu : (⟨128 + (u.val - 128), by omega⟩ : Fin 256) = u := Fin.ext (by simp only; omega)
      rw [hu, e46, pay45_real (hn := hn) hQ hK hC, table_real hQ hP r (col n hn u) _ (index_toNat _ _) _, ← EReal.coe_add]
      congr 1
      unfold lg
      rw [add_div]
  · rw [if_neg h, if_neg h]

variable {V : Vec Ideal S256x96 .bf16} (hV : ∀ u d, V (ix2 u d) = v (col n hn u) d)

theorem col_inj : Function.Injective (col n hn) := by
  intro x y h
  have := congrArg Fin.val h
  simp only [col] at this
  exact Fin.ext (by omega)

include hQ hK hC hP hV in
/-- One pass of the while loop, row by row. -/
theorem step_good (m l : FVec Ideal S128x1 .f32) (acc : FVec Ideal S128x96 .f32) (mc : EReal) (r : Fin 128)
    {T T' : Finset (Fin 3072)}
    (hG : Good (fun c => lg q k pe (row t r) c / Real.log 2) v T (m (ix2 r 0)) (l (ix2 r 0)) fun d => acc (ix2 r d))
    (hd : ∀ u, col n hn u ≤ row t r → col n hn u ∉ T)
    (hT : ∀ c, c ∈ T' ↔ c ∈ T ∨ ∃ u, col n hn u ≤ row t r ∧ col n hn u = c)
    (hne : m (ix2 r 0) ≠ ⊥ ∨ ∃ u, col n hn u ≤ row t r) :
    let s := wstep t Q (k0_pay2 (F := Ideal)) (k0_pay27 lanes Q P) (k0_pay26 lanes Q P) K V (jw (n + 1), C, mc, m, l, acc)
    Good (fun c => lg q k pe (row t r) c / Real.log 2) v T' (s.2.2.2.1 (ix2 r 0)) (s.2.2.2.2.1 (ix2 r 0))
      fun d => s.2.2.2.2.2 (ix2 r d) := by
  intro s
  refine good_step hG (col_inj (hn := hn)) hd hT hne
    (w := fun u => k0_pay18 (k0_pay27 lanes Q P) (k0_pay26 lanes Q P) (k0_pay40 (row0 t)) (k0_pay41 (jw (n + 1))) (k0_pay42 Q (jw (n + 1)) (row0 t) K)
        (k0_pay45 Q (k0_pay2 (F := Ideal)) (jw (n + 1)) C (row0 t) K) (k0_pay46 Q (k0_pay2 (F := Ideal)) (jw (n + 1)) C (row0 t) K)
        (k0_pay47 Q (k0_pay2 (F := Ideal)) (jw (n + 1)) C (row0 t) K) (ix2 r u))
    (fun u => pay18_real hQ hK hC hP r u) (V := fun u d => V (ix2 u d)) hV ?_ ?_ ?_
  · exact pay19_read _ _ _ _ _ _ _ _ _ _
  · exact pay22_read _ _ _ _ _ _ _ _ _ _ _
  · exact fun d => pay23_read _ _ _ _ _ _ _ _ _ _ _ _ d

end Block

end Cert.Proof.KI

end
-- ==== Proof.Val.Loop.lean ====
/-
  The kernel's two loops over key blocks, row by row: the while loop from the diagonal block down, and the blocks left over,
  where every position is the last one.
-/
module

public import proofs.«01_k».proof.Proof.Val.Pay

@[expose] public section

noncomputable section

namespace Cert.Proof.KI

open Cert.KernelIdeal Cert.KernelIdeal.Gen Cert.Proof.Cope
open Idealize.ShloMosaic

section Loops

variable {q k : Fin 3072 → Fin 96 → ℝ} {v : Fin 3072 → Fin 96 → EReal} {pe : ℕ → Fin 96 → ℝ}
variable {t : Fin k0_t1_loop.trips} {Q : Vec Ideal S128x96 .bf16} (hQ : ∀ r d, Q (ix2 r d) = ((q (row t r) d : ℝ) : EReal))
variable {P : Vec Ideal S1x128x96 .bf16} (hP : ∀ n d, P (ix3 0 n d) = ((pe n.val d : ℝ) : EReal))
variable {arg11 : Memref sig .tc .vmem S96x3072 .bf16} {X11 : BufTy.Contents (Elt Ideal) arg11.view.ty}
  {arg12 : Memref sig .tc .vmem S3072x96 .bf16} {X12 : BufTy.Contents (Elt Ideal) arg12.view.ty}
  (hKB : ∀ n (hn : n < 12) h d u, kb arg11 X11 (jw (n + 1)) h (ix2 d u) = ((k (col n hn u) d : ℝ) : EReal))
  (hVB : ∀ n (hn : n < 12) h u d, vb arg12 X12 (jw (n + 1)) h (ix2 u d) = v (col n hn u) d)

/-- The columns from `n` to the row. -/
def cols (i : Fin 3072) (n : ℕ) : Finset (Fin 3072) := Finset.univ.filter fun c => n ≤ c.val ∧ c ≤ i

/-- The while loop's tuple with `n` blocks still to visit. -/
structure WInv (q k : Fin 3072 → Fin 96 → ℝ) (v : Fin 3072 → Fin 96 → EReal) (pe : ℕ → Fin 96 → ℝ) (t : Fin k0_t1_loop.trips) (n : ℕ) (s : St Ideal) : Prop where
  blk : s.1 = jw n
  le : n ≤ t.val / 2 + 1
  cum : ∀ r, s.2.1 (ix2 r 0) = ((cum q k (row t r) (256 * n) : ℝ) : EReal)
  good : ∀ r, Good (fun c => lg q k pe (row t r) c / Real.log 2) v (cols (row t r) (256 * n)) (s.2.2.2.1 (ix2 r 0))
    (s.2.2.2.2.1 (ix2 r 0)) fun d => s.2.2.2.2.2 (ix2 r d)
  least : ¬s.2.2.1 < ((39 : ℝ) : EReal) → n ≤ t.val / 2 ∧ ∀ r, 39 ≤ Cope.cum q k (row t r) (256 * n)

theorem winv_start : WInv q k v pe t (t.val / 2 + 1) (st0 t) where
  blk := j0_eq t
  le := le_rfl
  cum r := by
    rw [cum_zero _ _ _ _ (by simp only [row]; omega)]
    show k0_pay29 (F := Ideal) (ix2 r 0) = _
    pointwise [k0_pay29]
    rfl
  good r := by
    refine Or.inl ⟨?_, ?_, ?_, fun d => ?_⟩
    · refine Finset.filter_eq_empty_iff.mpr fun c _ h => ?_
      have h1 := h.1; have h2 := Fin.le_def.mp h.2
      simp only [row] at h2
      omega
    · show k0_pay30 (F := Ideal) (ix2 r 0) = _
      pointwise [k0_pay30]
      rfl
    · show k0_pay3 (F := Ideal) (ix2 r 0) = _
      pointwise [k0_pay3]
    · show k0_pay4 (F := Ideal) (ix2 r d) = _
      pointwise [k0_pay4]
  least h := by
    refine absurd ?_ h
    show Ideal.ofBits .f32 0#32 < _
    rw [show Ideal.ofBits .f32 0#32 = ((0 : ℝ) : EReal) by simp [Ideal.ofBits, Ideal.ieee, -EReal.coe_mul]]
    exact EReal.coe_lt_coe_iff.mpr (by norm_num)

theorem pay24_least (c : FVec Ideal S128x1 .f32) (h : ¬k0_pay24 c < ((39 : ℝ) : EReal)) (r : Fin 128) :
    ((39 : ℝ) : EReal) ≤ c (ix2 r 0) := by
  refine le_of_not_gt fun hr => h ?_
  pointwise [k0_pay24]
  exact (Finset.fold_min_lt _).mpr (Or.inr ⟨(r, 0), Finset.mem_univ _, hr⟩)

include hQ hP hKB hVB in
theorem winv_step (n : ℕ) (hn : n ≤ t.val / 2) (s : St Ideal) (hs : WInv q k v pe t (n + 1) s) (h : k0_chk1 s.1) :
    WInv q k v pe t n (wstep t Q (k0_pay2 (F := Ideal)) (k0_pay27 lanes Q P) (k0_pay26 lanes Q P)
      (kb arg11 X11 s.1 h) (vb arg12 X12 s.1 h) s) := by
  have ht := t_lt t
  have hn12 : n < 12 := by omega
  obtain ⟨s1, C, mc, m, l, acc⟩ := s
  obtain ⟨rfl, hle, hC, hG, -⟩ := hs
  have hK := fun d u => hKB n hn12 h d u
  have hV := fun u d => hVB n hn12 h u d
  have hc : ∀ r, k0_pay44 Q (k0_pay2 (F := Ideal)) (jw (n + 1)) C (row0 t) (kb arg11 X11 (jw (n + 1)) h) (ix2 r 0) = _ :=
    pay44_real (hn := hn12) hQ hK hC
  refine ⟨jw_sub ⟨n, hn12⟩, by omega, hc, fun r => ?_, fun hm => ⟨hn, fun r => ?_⟩⟩
  · refine step_good (hn := hn12) hQ hK hC hP hV m l acc mc r (hG r) ?_ ?_ (Or.inr ⟨0, ?_⟩)
    · intro u _ hu
      have := (Finset.mem_filter.mp hu).2.1
      simp only [col] at this
      omega
    · intro c
      simp only [cols, Finset.mem_filter, Finset.mem_univ, true_and]
      constructor
      · rintro ⟨h1, h2⟩
        by_cases h3 : 256 * (n + 1) ≤ c.val
        · exact Or.inl ⟨h3, h2⟩
        · have e : col n hn12 ⟨c.val - 256 * n, by omega⟩ = c := Fin.ext (by simp only [col]; omega)
          exact Or.inr ⟨⟨c.val - 256 * n, by omega⟩, by rw [e]; exact h2, e⟩
      · rintro (⟨h1, h2⟩ | ⟨u, h1, rfl⟩)
        · exact ⟨by omega, h2⟩
        · exact ⟨by simp only [col]; omega, h1⟩
    · rw [Fin.le_def]; simp only [col, row, Fin.val_zero]; omega
  · have := pay24_least _ hm r
    rw [hc] at this
    exact EReal.coe_le_coe_iff.mp this

theorem wtest_of (s : St Ideal) (n : ℕ) (hn : n < 12) (hs : s.1 = jw (n + 1)) (h : ¬wtest s) : ¬s.2.2.1 < ((39 : ℝ) : EReal) := by
  intro hlt
  refine h ?_
  unfold wtest
  rw [hs]
  have e1 : ∀ n : Fin 12, Scalar.cmpi .sge (jw (n.val + 1)) 0#32 = 1#1 := by decide
  rw [e1 ⟨n, hn⟩]
  have e2 : (Scalar.cmpf .olt s.2.2.1 (Scalar.ofBits .f32 0x421C0000#32) : BitVec 1) = 1#1 := by
    show Ideal.cmp .olt s.2.2.1 (Ideal.ofBits .f32 0x421C0000#32) = 1#1
    rw [ofBits_39]
    unfold Ideal.cmp
    simp [hlt]
  rw [e2]; rfl

include hQ hP hKB hVB in
theorem winv_end (n : ℕ) (s : St Ideal) (hs : WInv q k v pe t n s) :
    ∃ n', WInv q k v pe t n' (wrun t Q (k0_pay2 (F := Ideal)) (k0_pay27 lanes Q P) (k0_pay26 lanes Q P) arg11 X11 arg12 X12 n s)
      ∧ (n' = 0 ∨ n' ≤ t.val / 2 ∧ ∀ r, 39 ≤ Cope.cum q k (row t r) (256 * n')) := by
  have ht := t_lt t
  induction n generalizing s with
  | zero => exact ⟨0, hs, Or.inl rfl⟩
  | succ n ih =>
    have hn := hs.le
    rw [wrun, dif_pos (show k0_chk1 s.1 by rw [hs.blk]; exact chk1_jw ⟨n, by omega⟩)]
    split
    · exact ih _ (winv_step hQ hP hKB hVB n (by omega) s hs _)
    · rename_i hw
      exact ⟨n + 1, hs, Or.inr (hs.least (wtest_of s n (by omega) hs.blk hw))⟩

/-! ## The blocks left over -/

/-- One pass over a block where every position is the last one. -/
def sstep (Q : Vec Ideal S128x96 .bf16) (Z : FVec Ideal S128x1 .f32) (K : Vec Ideal S96x256 .bf16) (V : Vec Ideal S256x96 .bf16)
    (s : FVec Ideal S128x1 .f32 × FVec Ideal S128x1 .f32 × FVec Ideal S128x96 .f32) :
    FVec Ideal S128x1 .f32 × FVec Ideal S128x1 .f32 × FVec Ideal S128x96 .f32 :=
  (k0_pay6 Q Z s.1 K, k0_pay9 Q Z s.1 s.2.1 K, k0_pay10 Q Z s.1 s.2.2 K V)

/-- The columns to the row, without those from `n'` up to `n`. -/
def gap (i : Fin 3072) (n' n : ℕ) : Finset (Fin 3072) := Finset.univ.filter fun c => (n ≤ c.val ∨ c.val < n') ∧ c ≤ i

theorem rr_sat (i c : Fin 3072) (h : 39 ≤ cum q k i c.val) : rr q k pe i c = zz q pe i 39 := by
  have h1 : pos q k i c = 39 := min_eq_right h
  have h2 : flr q k i c = 38 := by unfold flr; rw [h1]; norm_num
  unfold rr
  rw [h1, h2]
  norm_num

include hQ hP in
theorem sgood_step {n' : ℕ} (hn' : n' ≤ t.val / 2) (hsat : ∀ r, 39 ≤ Cope.cum q k (row t r) (256 * n')) (j : ℕ) (hj : j < n') (hj12 : j < 12)
    {K : Vec Ideal S96x256 .bf16} (hK : ∀ d u, K (ix2 d u) = ((k (col j hj12 u) d : ℝ) : EReal))
    {V : Vec Ideal S256x96 .bf16} (hV : ∀ u d, V (ix2 u d) = v (col j hj12 u) d)
    (s : FVec Ideal S128x1 .f32 × FVec Ideal S128x1 .f32 × FVec Ideal S128x96 .f32) (r : Fin 128)
    (hG : Good (fun c => lg q k pe (row t r) c / Real.log 2) v (gap (row t r) (256 * j) (256 * n')) (s.1 (ix2 r 0)) (s.2.1 (ix2 r 0))
      fun d => s.2.2 (ix2 r d)) :
    Good (fun c => lg q k pe (row t r) c / Real.log 2) v (gap (row t r) (256 * (j + 1)) (256 * n'))
      ((sstep Q (k0_pay28 Q P) K V s).1 (ix2 r 0)) ((sstep Q (k0_pay28 Q P) K V s).2.1 (ix2 r 0))
      fun d => (sstep Q (k0_pay28 Q P) K V s).2.2 (ix2 r d) := by
  have ht := t_lt t
  have hcol : ∀ u, col j hj12 u ≤ row t r := fun u => by rw [Fin.le_def]; simp only [col, row]; omega
  refine good_step hG (col_inj (hn := hj12)) (P := fun _ => True) ?_ ?_ (Or.inr ⟨0, trivial⟩)
    (w := fun u => k0_pay5 Q (k0_pay28 Q P) K (ix2 r u)) ?_ (V := fun u d => V (ix2 u d)) hV ?_ ?_ ?_
  · intro u _ hu
    have := (Finset.mem_filter.mp hu).2.1
    simp only [col] at this
    omega
  · intro c
    simp only [gap, Finset.mem_filter, Finset.mem_univ, true_and]
    constructor
    · rintro ⟨h1, h2⟩
      by_cases h3 : 256 * n' ≤ c.val ∨ c.val < 256 * j
      · exact Or.inl ⟨h3, h2⟩
      · exact Or.inr ⟨⟨c.val - 256 * j, by omega⟩, Fin.ext (by simp only [col]; omega)⟩
    · rintro (⟨h1, h2⟩ | ⟨u, rfl⟩)
      · exact ⟨by omega, h2⟩
      · exact ⟨by simp only [col]; omega, hcol u⟩
  · intro u
    rw [if_pos trivial]
    pointwise [k0_pay5, dot_S128x96_S96x256_S128x256_1_0_0_1_n_n]
    rw [score_eq, score_real (hn := hj12) hQ hK, pay28_real hQ hP, ← EReal.coe_add]
    congr 1
    unfold lg
    rw [rr_sat _ _ ((hsat r).trans (cum_anti q k _ (by simp only [col]; omega))), add_div]
  · show k0_pay6 _ _ _ _ _ = _
    pointwise [k0_pay6]
    rw [ofBits_ninf]
  · show k0_pay9 _ _ _ _ _ _ = _
    pointwise [k0_pay9, k0_pay8, k0_pay7]
    rfl
  · intro d
    show k0_pay10 _ _ _ _ _ _ _ = _
    pointwise [k0_pay10, k0_pay8, k0_pay7, dot_S128x256_S256x96_S128x96_1_0_0_1_n_n]
    rfl

theorem gap_all (i : Fin 3072) (n : ℕ) : gap i n n = Finset.univ.filter (· ≤ i) := by
  ext c
  simp only [gap, Finset.mem_filter, Finset.mem_univ, true_and]
  exact ⟨fun h => h.2, fun h => ⟨le_or_gt _ _, h⟩⟩

theorem gap_zero (i : Fin 3072) (n : ℕ) : gap i 0 n = cols i n := by
  ext c
  simp only [gap, cols, Finset.mem_filter, Finset.mem_univ, true_and]
  exact ⟨fun h => ⟨h.1.resolve_right (Nat.not_lt_zero _), h.2⟩, fun h => ⟨Or.inl h.1, h.2⟩⟩

/-- The stored block. -/
theorem pay17_real (l : FVec Ideal S128x1 .f32) (acc : FVec Ideal S128x96 .f32) (r : Fin 128) (d : Fin 96) (m : EReal)
    (hG : Good (fun c => lg q k pe (row t r) c / Real.log 2) v (Finset.univ.filter (· ≤ row t r)) m (l (ix2 r 0)) fun d => acc (ix2 r d)) :
    k0_pay17 l acc (ix4 0 0 d r) = out q k v pe (row t r) d := by
  pointwise [k0_pay17]
  exact good_out q k v pe hG d

end Loops

end Cert.Proof.KI

end
-- ==== Proof.Val.Trip.lean ====
/-
  One query block of the kernel: the while loop's end, the blocks left over, and the block stored.
-/
module

public import proofs.«01_k».proof.Proof.Val.Loop

@[expose] public section

noncomputable section

namespace Cert.Proof.KI

open Cert.KernelIdeal Cert.KernelIdeal.Gen Cert.Proof.Cope
open Idealize.ShloMosaic

/-! ## Offsets and trip counts -/

theorem off5_jw : ∀ n : Fin 12, k0_off5 (jw (n.val + 1)) = ![0, 256 * n.val] := by decide
theorem off6_jw : ∀ n : Fin 12, k0_off6 (jw (n.val + 1)) = ![256 * n.val, 0] := by decide
theorem trips2_jw : ∀ n : Fin 13, (k0_t2_loop (jw n.val)).trips = n.val := by decide
theorem trips3_jw : ∀ n : Fin 13, (k0_t3_loop (jw n.val)).trips = 0 := by decide
theorem off7_jw : ∀ n : Fin 13, ∀ j : Fin (k0_t2_loop (jw n.val)).trips, k0_off7 (jw n.val) j = ![0, 256 * j.val] := by decide
theorem off8_jw : ∀ n : Fin 13, ∀ j : Fin (k0_t2_loop (jw n.val)).trips, k0_off8 (jw n.val) j = ![256 * j.val, 0] := by decide

/-! ## Reads of the scratch buffers -/

theorem kread (arg11 : Memref sig .tc .vmem S96x3072 .bf16) (X : BufTy.Contents (Elt Ideal) arg11.view.ty) (n : ℕ) (hn : n < 12)
    (off : Fin 2 → ℕ) (h : off = ![0, 256 * n]) (inb : ∀ a, off a + S96x256.size a ≤ S96x3072.size a) (d : Fin 96) (u : Fin 256) :
    arg11.view.readAt (Elt Ideal) (Rect.unit (s := S96x3072) off S96x256.size inb).toLoadRect X (ix2 d u)
      = arg11.view.read (Elt Ideal) X (ix2 d (col n hn u)) := by
  subst h
  refine congrArg (arg11.view.read (Elt Ideal) X) (Shape.idx_ext₂ ?_ ?_)
  · show 0 + 1 * d.val = d.val; omega
  · show 256 * n + 1 * u.val = 256 * n + u.val; omega

theorem vread (arg12 : Memref sig .tc .vmem S3072x96 .bf16) (X : BufTy.Contents (Elt Ideal) arg12.view.ty) (n : ℕ) (hn : n < 12)
    (off : Fin 2 → ℕ) (h : off = ![256 * n, 0]) (inb : ∀ a, off a + S256x96.size a ≤ S3072x96.size a) (u : Fin 256) (d : Fin 96) :
    arg12.view.readAt (Elt Ideal) (Rect.unit (s := S3072x96) off S256x96.size inb).toLoadRect X (ix2 u d)
      = arg12.view.read (Elt Ideal) X (ix2 (col n hn u) d) := by
  subst h
  refine congrArg (arg12.view.read (Elt Ideal) X) (Shape.idx_ext₂ ?_ ?_)
  · show 256 * n + 1 * u.val = 256 * n + u.val; omega
  · show 0 + 1 * d.val = d.val; omega

theorem qread (arg10 : Memref sig .tc .vmem S3072x96 .bf16) (X : BufTy.Contents (Elt Ideal) arg10.view.ty) (t : Fin k0_t1_loop.trips)
    (r : Fin 128) (d : Fin 96) : qb arg10 X t (ix2 r d) = arg10.view.read (Elt Ideal) X (ix2 (row t r) d) := by
  have key : ∀ (off : Fin 2 → ℕ) (h : off = ![128 * t.val, 0]) (inb : ∀ a, off a + S128x96.size a ≤ S3072x96.size a),
      arg10.view.readAt (Elt Ideal) (Rect.unit (s := S3072x96) off S128x96.size inb).toLoadRect X (ix2 r d)
        = arg10.view.read (Elt Ideal) X (ix2 (row t r) d) := by
    intro off h inb
    subst h
    refine congrArg (arg10.view.read (Elt Ideal) X) (Shape.idx_ext₂ ?_ ?_)
    · show 128 * t.val + 1 * r.val = 128 * t.val + r.val; omega
    · show 0 + 1 * d.val = d.val; omega
  exact key _ (k0_off4_eq t) _

theorem peread (arg8 : Memref sig .tc .vmem S1x128x96 .bf16) (X : BufTy.Contents (Elt Ideal) arg8.view.ty)
    (n : Fin 128) (d : Fin 96) : peb arg8 X (ix3 0 n d) = arg8.view.read (Elt Ideal) X (ix3 0 n d) := by
  refine congrArg (arg8.view.read (Elt Ideal) X) (funext fun a => Fin.ext ?_)
  show ![0, 0, 0] a + 1 * (ix3 (0 : Fin 1) n d a).val = _
  match a with
  | 0 => rfl
  | 1 => show 0 + 1 * n.val = n.val; omega
  | 2 => show 0 + 1 * d.val = d.val; omega

/-! ## The trip -/

section Trip

variable (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
variable {X8 : BufTy.Contents (Elt Ideal) arg8.view.ty} {X10 : BufTy.Contents (Elt Ideal) arg10.view.ty} {X11 : BufTy.Contents (Elt Ideal) arg11.view.ty} {X12 : BufTy.Contents (Elt Ideal) arg12.view.ty}

theorem tripR2_eq (Q : Vec Ideal S128x96 .bf16) (Z : FVec Ideal S128x1 .f32) (w : BitVec 32) (hw : k0_chk2 w) (j : Fin (k0_t2_loop w).trips) (acc : FVec Ideal S128x1 .f32 × FVec Ideal S128x1 .f32 × FVec Ideal S128x96 .f32) :
  tripR_k0_t2 (F := Ideal) Variants.nat c none i arg2 harg2 arg3 harg3 arg4 harg4 arg5 harg5 arg6 harg6 arg7 harg7 arg8 harg8 arg9 harg9 arg10 harg10 arg11 harg11 arg12 harg12 Q Z w hw X11 X12 j acc =
    sstep Q Z (arg11.view.readAt (Elt Ideal) (Rect.unit (s := S96x3072) (k0_off7 w j) S96x256.size (k0_off7_inb w hw j)).toLoadRect X11)
     (arg12.view.readAt (Elt Ideal) (Rect.unit (s := S3072x96) (k0_off8 w j) S256x96.size (k0_off8_inb w hw j)).toLoadRect X12) acc := by
  unfold tripR_k0_t2 trip_k0_t2
  rfl

/-- The sums after the blocks left over. -/
def rest (Q : Vec Ideal S128x96 .bf16) (Z : FVec Ideal S128x1 .f32) (w : BitVec 32) (hw : k0_chk2 w) (X11 : BufTy.Contents (Elt Ideal) arg11.view.ty) (X12 : BufTy.Contents (Elt Ideal) arg12.view.ty)
    (s : FVec Ideal S128x1 .f32 × FVec Ideal S128x1 .f32 × FVec Ideal S128x96 .f32) : FVec Ideal S128x1 .f32 × FVec Ideal S128x1 .f32 × FVec Ideal S128x96 .f32 :=
  st_k0_t3 (F := Ideal) Variants.nat c none i arg2 harg2 arg3 harg3 arg4 harg4 arg5 harg5 arg6 harg6 arg7 harg7 arg8 harg8 arg9 harg9 arg10 harg10 arg11 harg11 arg12 harg12 Q Z w hw X11 X12
    (st_k0_t2 (F := Ideal) Variants.nat c none i arg2 harg2 arg3 harg3 arg4 harg4 arg5 harg5 arg6 harg6 arg7 harg7 arg8 harg8 arg9 harg9 arg10 harg10 arg11 harg11 arg12 harg12 Q Z w hw X11 X12 s (k0_t2_loop w).trips) (k0_t3_loop w).trips

/-- The sums at the end of query block `t`. -/
def last (X8 : BufTy.Contents (Elt Ideal) arg8.view.ty) (X10 : BufTy.Contents (Elt Ideal) arg10.view.ty) (X11 : BufTy.Contents (Elt Ideal) arg11.view.ty) (X12 : BufTy.Contents (Elt Ideal) arg12.view.ty)
    (t : Fin k0_t1_loop.trips) : FVec Ideal S128x1 .f32 × FVec Ideal S128x1 .f32 × FVec Ideal S128x96 .f32 :=
  rest c i arg2 harg2 arg3 harg3 arg4 harg4 arg5 harg5 arg6 harg6 arg7 harg7 arg8 harg8 arg9 harg9 arg10 harg10 arg11 harg11 arg12 harg12 (qb arg10 X10 t) (k0_pay28 (qb arg10 X10 t) (peb arg8 X8)) (wend lanes arg8 X8 arg10 X10 arg11 X11 arg12 X12 t).1
    (chk2_wend lanes arg8 X8 arg10 X10 arg11 X11 arg12 X12 t) X11 X12 (wend lanes arg8 X8 arg10 X10 arg11 X11 arg12 X12 t).2.2.2

set_option maxRecDepth 4096 in
set_option maxHeartbeats 2000000 in
theorem tripL1_eq (t : Fin k0_t1_loop.trips) : tripL1 (F := Ideal) c i arg2 harg2 arg3 harg3 arg4 harg4 arg5 harg5 arg6 harg6 arg7 harg7 arg8 harg8 arg9 harg9 arg10 harg10 arg11 harg11 arg12 harg12 lanes X8 X10 X11 X12 t
    = [⟨Rect.unit (s := S1x1x96x3072) (k0_off11 t) S1x1x96x128.size (k0_off11_inb t),
        k0_pay17 (last c i arg2 harg2 arg3 harg3 arg4 harg4 arg5 harg5 arg6 harg6 arg7 harg7 arg8 harg8 arg9 harg9 arg10 harg10 arg11 harg11 arg12 harg12 X8 X10 X11 X12 t).2.1 (last c i arg2 harg2 arg3 harg3 arg4 harg4 arg5 harg5 arg6 harg6 arg7 harg7 arg8 harg8 arg9 harg9 arg10 harg10 arg11 harg11 arg12 harg12 X8 X10 X11 X12 t).2.2⟩] := by
  unfold tripL1 trip1
  rfl

variable {q k : Fin 3072 → Fin 96 → ℝ} {v : Fin 3072 → Fin 96 → EReal} {pe : ℕ → Fin 96 → ℝ} {t : Fin k0_t1_loop.trips}
  (h8 : ∀ n d, arg8.view.read (Elt Ideal) X8 (ix3 0 n d) = ((pe n.val d : ℝ) : EReal))
  (h10 : ∀ r d, arg10.view.read (Elt Ideal) X10 (ix2 r d) = ((q r d : ℝ) : EReal))
  (h11 : ∀ d r, arg11.view.read (Elt Ideal) X11 (ix2 d r) = ((k r d : ℝ) : EReal))
  (h12 : ∀ r d, arg12.view.read (Elt Ideal) X12 (ix2 r d) = v r d)

include h11 h12 in
theorem rest_good {Q : Vec Ideal S128x96 .bf16} (hQ : ∀ r d, Q (ix2 r d) = ((q (row t r) d : ℝ) : EReal))
    {P : Vec Ideal S1x128x96 .bf16} (hP : ∀ n d, P (ix3 0 n d) = ((pe n.val d : ℝ) : EReal))
    {n' : ℕ} (hw : k0_chk2 (jw n')) (hn : n' = 0 ∨ n' ≤ t.val / 2 ∧ ∀ r, 39 ≤ Cope.cum q k (row t r) (256 * n'))
    (s : FVec Ideal S128x1 .f32 × FVec Ideal S128x1 .f32 × FVec Ideal S128x96 .f32) (r : Fin 128)
    (hG : Good (fun c => lg q k pe (row t r) c / Real.log 2) v (cols (row t r) (256 * n')) (s.1 (ix2 r 0)) (s.2.1 (ix2 r 0))
      fun d => s.2.2 (ix2 r d)) :
    Good (fun c => lg q k pe (row t r) c / Real.log 2) v (Finset.univ.filter (· ≤ row t r))
      ((rest c i arg2 harg2 arg3 harg3 arg4 harg4 arg5 harg5 arg6 harg6 arg7 harg7 arg8 harg8 arg9 harg9 arg10 harg10 arg11 harg11 arg12 harg12 Q (k0_pay28 Q P) (jw n') hw X11 X12 s).1 (ix2 r 0)) ((rest c i arg2 harg2 arg3 harg3 arg4 harg4 arg5 harg5 arg6 harg6 arg7 harg7 arg8 harg8 arg9 harg9 arg10 harg10 arg11 harg11 arg12 harg12 Q (k0_pay28 Q P) (jw n') hw X11 X12 s).2.1 (ix2 r 0))
      fun d => (rest c i arg2 harg2 arg3 harg3 arg4 harg4 arg5 harg5 arg6 harg6 arg7 harg7 arg8 harg8 arg9 harg9 arg10 harg10 arg11 harg11 arg12 harg12 Q (k0_pay28 Q P) (jw n') hw X11 X12 s).2.2 (ix2 r d) := by
  have ht := t_lt t
  have hn13 : n' < 13 := by omega
  have e2 := trips2_jw ⟨n', hn13⟩
  have e3 := trips3_jw ⟨n', hn13⟩
  simp only at e2 e3
  have key : ∀ m (hm : m ≤ n'), Good (fun c => lg q k pe (row t r) c / Real.log 2) v (gap (row t r) (256 * m) (256 * n'))
      ((st_k0_t2 (F := Ideal) Variants.nat c none i arg2 harg2 arg3 harg3 arg4 harg4 arg5 harg5 arg6 harg6 arg7 harg7 arg8 harg8 arg9 harg9 arg10 harg10 arg11 harg11 arg12 harg12 Q (k0_pay28 Q P) (jw n') hw X11 X12 s m).1 (ix2 r 0))
      ((st_k0_t2 (F := Ideal) Variants.nat c none i arg2 harg2 arg3 harg3 arg4 harg4 arg5 harg5 arg6 harg6 arg7 harg7 arg8 harg8 arg9 harg9 arg10 harg10 arg11 harg11 arg12 harg12 Q (k0_pay28 Q P) (jw n') hw X11 X12 s m).2.1 (ix2 r 0))
      fun d => (st_k0_t2 (F := Ideal) Variants.nat c none i arg2 harg2 arg3 harg3 arg4 harg4 arg5 harg5 arg6 harg6 arg7 harg7 arg8 harg8 arg9 harg9 arg10 harg10 arg11 harg11 arg12 harg12 Q (k0_pay28 Q P) (jw n') hw X11 X12 s m).2.2 (ix2 r d) := by
    intro m
    induction m with
    | zero =>
      intro _
      rw [st_k0_t2_zero, Nat.mul_zero, gap_zero]
      exact hG
    | succ m ih =>
      intro hm
      have hlt : m < (k0_t2_loop (jw n')).trips := by rw [e2]; omega
      have h39 := (hn.resolve_left (by omega))
      rw [st_k0_t2_succ Variants.nat c none i arg2 harg2 arg3 harg3 arg4 harg4 arg5 harg5 arg6 harg6 arg7 harg7 arg8 harg8 arg9 harg9 arg10 harg10 arg11 harg11 arg12 harg12 Q (k0_pay28 Q P) (jw n') hw X11 X12 s ⟨m, hlt⟩, tripR2_eq]
      exact sgood_step hQ hP h39.1 h39.2 m (by omega) (by omega)
        (fun d u => (kread arg11 X11 m (by omega) _ (off7_jw ⟨n', hn13⟩ ⟨m, hlt⟩) _ d u).trans (h11 d _))
        (fun u d => (vread arg12 X12 m (by omega) _ (off8_jw ⟨n', hn13⟩ ⟨m, hlt⟩) _ u d).trans (h12 _ d)) _ r (ih (by omega))
  unfold rest
  rw [e3, st_k0_t3_zero, e2, ← gap_all _ (256 * n')]
  exact key n' le_rfl

set_option maxHeartbeats 2000000 in
include h8 h10 h11 h12 in
/-- The block stored, as real numbers. -/
theorem last_real (d : Fin 96) (r : Fin 128) :
    k0_pay17 (last c i arg2 harg2 arg3 harg3 arg4 harg4 arg5 harg5 arg6 harg6 arg7 harg7 arg8 harg8 arg9 harg9 arg10 harg10 arg11 harg11 arg12 harg12 X8 X10 X11 X12 t).2.1 (last c i arg2 harg2 arg3 harg3 arg4 harg4 arg5 harg5 arg6 harg6 arg7 harg7 arg8 harg8 arg9 harg9 arg10 harg10 arg11 harg11 arg12 harg12 X8 X10 X11 X12 t).2.2 (ix4 0 0 d r)
      = out q k v pe (row t r) d := by
  have hQ : ∀ r d, qb arg10 X10 t (ix2 r d) = ((q (row t r) d : ℝ) : EReal) := fun r d => (qread arg10 X10 t r d).trans (h10 _ d)
  have hP : ∀ n d, peb arg8 X8 (ix3 0 n d) = ((pe n.val d : ℝ) : EReal) := fun n d => (peread arg8 X8 n d).trans (h8 n d)
  obtain ⟨n', hW, hn⟩ := winv_end (arg11 := arg11) (X11 := X11) (arg12 := arg12) (X12 := X12) hQ hP
    (fun n hn h d u => (kread arg11 X11 n hn _ (off5_jw ⟨n, hn⟩) _ d u).trans (h11 d _))
    (fun n hn h u d => (vread arg12 X12 n hn _ (off6_jw ⟨n, hn⟩) _ u d).trans (h12 _ d))
    (t.val / 2 + 1) (st0 t) winv_start
  have main : ∀ (S : St Ideal) (hS : k0_chk2 S.1) (_ : WInv q k v pe t n' S),
      Good (fun c => lg q k pe (row t r) c / Real.log 2) v (Finset.univ.filter (· ≤ row t r))
        ((rest c i arg2 harg2 arg3 harg3 arg4 harg4 arg5 harg5 arg6 harg6 arg7 harg7 arg8 harg8 arg9 harg9 arg10 harg10 arg11 harg11 arg12 harg12 (qb arg10 X10 t) (k0_pay28 (qb arg10 X10 t) (peb arg8 X8)) S.1 hS X11 X12 S.2.2.2).1 (ix2 r 0))
        ((rest c i arg2 harg2 arg3 harg3 arg4 harg4 arg5 harg5 arg6 harg6 arg7 harg7 arg8 harg8 arg9 harg9 arg10 harg10 arg11 harg11 arg12 harg12 (qb arg10 X10 t) (k0_pay28 (qb arg10 X10 t) (peb arg8 X8)) S.1 hS X11 X12 S.2.2.2).2.1 (ix2 r 0))
        fun d => (rest c i arg2 harg2 arg3 harg3 arg4 harg4 arg5 harg5 arg6 harg6 arg7 harg7 arg8 harg8 arg9 harg9 arg10 harg10 arg11 harg11 arg12 harg12 (qb arg10 X10 t) (k0_pay28 (qb arg10 X10 t) (peb arg8 X8)) S.1 hS X11 X12 S.2.2.2).2.2 (ix2 r d) := by
    rintro ⟨w, s⟩ hS hW
    have hb : w = jw n' := hW.blk
    subst hb
    exact rest_good c i arg2 harg2 arg3 harg3 arg4 harg4 arg5 harg5 arg6 harg6 arg7 harg7 arg8 harg8 arg9 harg9 arg10 harg10 arg11 harg11 arg12 harg12 h11 h12 hQ hP hS hn s.2.2 r (hW.good r)
  exact pay17_real _ _ r d _ (main _ (chk2_wend lanes arg8 X8 arg10 X10 arg11 X11 arg12 X12 t) hW)

end Trip

end Cert.Proof.KI

end
-- ==== Proof.Val.Arr.lean ====
/-
  The attention of every head, from the whole argument arrays.
-/
module

public import proofs.«01_k».proof.Proof.Val.Spec
public import Idealize.ShloMosaic.PureOps.Ideal
public import Idealize.ShloMosaic.Lib.Pointwise

@[expose] public section

noncomputable section

namespace Cert.Proof.Cope

open Idealize.ShloMosaic

abbrev SX : Shape := ⟨4, ![2, 3072, 24, 96]⟩
abbrev SS : Shape := ⟨4, ![2, 3072, 24, 3]⟩
abbrev SP : Shape := ⟨3, ![24, 40, 96]⟩

/-- The scale group of a channel. -/
def grp (d : Fin 96) : Fin 3 := ⟨d.val / 32, by omega⟩

/-- A code's number. -/
def num (b : BitVec 8) : EReal := Ideal.ofBits .fp8e4m3 b

/-- Head `h` of batch `b`: codes times scales. -/
def head (x : SX.Idx → BitVec 8) (s : SS.Idx → EReal) (b : Fin 2) (h : Fin 24) (i : Fin 3072) (d : Fin 96) : ℝ :=
  (num (x (ix4 b i h d))).toReal * (s (ix4 b i h (grp d))).toReal

/-- The same as a product that may be infinite. -/
def vals (x : SX.Idx → BitVec 8) (s : SS.Idx → EReal) (b : Fin 2) (h : Fin 24) (i : Fin 3072) (d : Fin 96) : EReal :=
  num (x (ix4 b i h d)) * s (ix4 b i h (grp d))

/-- The position embedding of head `h`, zero beyond the table. -/
def emb (p : SP.Idx → EReal) (h : Fin 24) (n : ℕ) (d : Fin 96) : ℝ :=
  if hn : n < 40 then (p (ix3 h ⟨n, hn⟩ d)).toReal else 0

/-- The result. -/
def whole (xq xk xv : SX.Idx → BitVec 8) (sq sk sv : SS.Idx → EReal) (p : SP.Idx → EReal) : SX.Idx → EReal := fun y =>
  out (head xq sq (y 0) (y 2)) (head xk sk (y 0) (y 2)) (vals xv sv (y 0) (y 2)) (emb p (y 2)) (y 1) (y 3)

/-- Every entry of the queries, the keys and the embedding is a number. -/
structure Tame (xq xk : SX.Idx → BitVec 8) (sq sk : SS.Idx → EReal) (p : SP.Idx → EReal) : Prop where
  xq : ∀ i, num (xq i) = ((num (xq i)).toReal : EReal)
  xk : ∀ i, num (xk i) = ((num (xk i)).toReal : EReal)
  sq : ∀ i, sq i = ((sq i).toReal : EReal)
  sk : ∀ i, sk i = ((sk i).toReal : EReal)
  p : ∀ i, p i = ((p i).toReal : EReal)

theorem head_mul {x : SX.Idx → BitVec 8} {s : SS.Idx → EReal} (hx : ∀ i, num (x i) = ((num (x i)).toReal : EReal))
    (hs : ∀ i, s i = ((s i).toReal : EReal)) (b : Fin 2) (h : Fin 24) (i : Fin 3072) (d : Fin 96) :
    num (x (ix4 b i h d)) * s (ix4 b i h (grp d)) = ((head x s b h i d : ℝ) : EReal) := by
  unfold head
  rw [EReal.coe_mul, ← hx, ← hs]

end Cert.Proof.Cope

end
-- ==== Proof.Val.Block.lean ====
/-
  One grid point of the kernel: the scratch buffers hold the scaled heads, and the output's block is written whole.
-/
module

public import proofs.«01_k».proof.Proof.Val.Trip
public import proofs.«01_k».proof.Proof.Val.Arr
public import proofs.«01_k».proof.Proof.KI.Frame
public import Idealize.ShloMosaic.Lib.VecWindow
public import Idealize.ShloMosaic.Lib.WholeRead

@[expose] public section

noncomputable section

namespace Cert.Proof.KI

open Cert.KernelIdeal Cert.KernelIdeal.Gen Cert.Proof.Cope
open Idealize.ShloMosaic

/-! ## The scaled heads -/

section Scaled

variable {a c e : Vec Ideal S1x1x32x3072 .fp8e4m3} {b d f : Vec Ideal S1x1x1x3072 .f32}
  {x : Vec Ideal S1x1x96x3072 .fp8e4m3} {y : Vec Ideal S1x3x24x3072 .f32} {h : Fin 24}
  (ha : ∀ (u : Fin 32) (r : Fin 3072), a (ix4 0 0 u r) = x (ix4 0 0 ⟨0 + u.val, by omega⟩ r)) (hb : ∀ r : Fin 3072, b (ix4 0 0 0 r) = y (ix4 0 0 h r))
  (hc : ∀ (u : Fin 32) (r : Fin 3072), c (ix4 0 0 u r) = x (ix4 0 0 ⟨32 + u.val, by omega⟩ r)) (hd : ∀ r : Fin 3072, d (ix4 0 0 0 r) = y (ix4 0 1 h r))
  (he : ∀ (u : Fin 32) (r : Fin 3072), e (ix4 0 0 u r) = x (ix4 0 0 ⟨64 + u.val, by omega⟩ r)) (hf : ∀ r : Fin 3072, f (ix4 0 0 0 r) = y (ix4 0 2 h r))

theorem pay32_read (r : Fin 3072) (u : Fin 96) : k0_pay32 (k0_pay31 a b c d e f) (ix2 r u)
    = if h1 : u.val < 32 then a (ix4 0 0 ⟨u.val, h1⟩ r) * b (ix4 0 0 0 r)
      else if h2 : u.val - 32 < 32 then c (ix4 0 0 ⟨u.val - 32, h2⟩ r) * d (ix4 0 0 0 r)
      else e (ix4 0 0 ⟨u.val - 64, by omega⟩ r) * f (ix4 0 0 0 r) := by
  pointwise! [k0_pay32, k0_pay31]

theorem pay36_read (r : Fin 3072) (u : Fin 96) : k0_pay36 (k0_pay33 a b) (k0_pay34 c d) (k0_pay35 e f) (ix2 u r)
    = if h1 : u.val < 32 then a (ix4 0 0 ⟨u.val, h1⟩ r) * b (ix4 0 0 0 r)
      else if h2 : u.val - 32 < 32 then c (ix4 0 0 ⟨u.val - 32, h2⟩ r) * d (ix4 0 0 0 r)
      else e (ix4 0 0 ⟨u.val - 64, by omega⟩ r) * f (ix4 0 0 0 r) := by
  pointwise! [k0_pay36, k0_pay33, k0_pay34, k0_pay35]

theorem pay1_read (r : Fin 3072) (u : Fin 96) : k0_pay1 (k0_pay37 a b) (k0_pay38 c d) (k0_pay39 e f) (ix2 r u)
    = if h1 : u.val < 32 then a (ix4 0 0 ⟨u.val, h1⟩ r) * b (ix4 0 0 0 r)
      else if h2 : u.val - 32 < 32 then c (ix4 0 0 ⟨u.val - 32, h2⟩ r) * d (ix4 0 0 0 r)
      else e (ix4 0 0 ⟨u.val - 64, by omega⟩ r) * f (ix4 0 0 0 r) := by
  pointwise! [k0_pay1, k0_pay37, k0_pay38, k0_pay39]

include ha hb hc hd he hf in
theorem groups (r : Fin 3072) (u : Fin 96) :
    (if h1 : u.val < 32 then a (ix4 0 0 ⟨u.val, h1⟩ r) * b (ix4 0 0 0 r)
      else if h2 : u.val - 32 < 32 then c (ix4 0 0 ⟨u.val - 32, h2⟩ r) * d (ix4 0 0 0 r)
      else e (ix4 0 0 ⟨u.val - 64, by omega⟩ r) * f (ix4 0 0 0 r) : EReal) = x (ix4 0 0 u r) * y (ix4 0 (grp u) h r) := by
  split
  · rename_i h1
    rw [ha, hb]
    congr 3
    · exact Fin.ext (by simp)
    · exact Fin.ext (by show 0 = u.val / 32; omega)
  · split
    · rename_i h1 h2
      rw [hc, hd]
      congr 3
      · exact Fin.ext (by simp only []; omega)
      · exact Fin.ext (by show 1 = u.val / 32; omega)
    · rename_i h1 h2
      rw [he, hf]
      congr 3
      · exact Fin.ext (by simp only []; omega)
      · exact Fin.ext (by show 2 = u.val / 32; omega)

end Scaled

theorem cread (arg : Memref sig .tc .vmem S1x1x96x3072 .fp8e4m3) (harg : arg.IsWhole) (x : Vec Ideal S1x1x96x3072 .fp8e4m3)
    (off : Fin 4 → ℕ) (n : ℕ) (h : off = ![0, 0, n, 0]) (hn : n ≤ 64) (inb : ∀ a, off a + S1x1x32x3072.size a ≤ S1x1x96x3072.size a)
    (u : Fin 32) (r : Fin 3072) :
    arg.view.readAt (Elt Ideal) (Rect.unit (s := S1x1x96x3072) off S1x1x32x3072.size inb).toLoadRect (harg.unread x) (ix4 0 0 u r)
      = x (ix4 0 0 ⟨n + u.val, by omega⟩ r) := by
  subst h
  rw [harg.readAt_unread]
  refine congrArg x (funext fun a => Fin.ext ?_)
  match a with
  | 0 => rfl
  | 1 => rfl
  | 2 => show n + 1 * u.val = n + u.val; omega
  | 3 => show 0 + 1 * r.val = r.val; omega

theorem sread (arg : Memref sig .tc .vmem S1x3x24x3072 .f32) (harg : arg.IsWhole) (x : Vec Ideal S1x3x24x3072 .f32)
    (off : Fin 4 → ℕ) (g : Fin 3) {h : Fin 24} (e : off = ![0, g.val, h.val, 0]) (inb : ∀ a, off a + S1x1x1x3072.size a ≤ S1x3x24x3072.size a)
    (r : Fin 3072) :
    arg.view.readAt (Elt Ideal) (Rect.unit (s := S1x3x24x3072) off S1x1x1x3072.size inb).toLoadRect (harg.unread x) (ix4 0 0 0 r)
      = x (ix4 0 g h r) := by
  subst e
  rw [harg.readAt_unread]
  refine congrArg x (funext fun a => Fin.ext ?_)
  match a with
  | 0 => rfl
  | 1 => show g.val + 1 * 0 = g.val; omega
  | 2 => show h.val + 1 * 0 = h.val; omega
  | 3 => show 0 + 1 * r.val = r.val; omega

/-! ## The block -/

section Block

variable (c : Dev nD) (i : grid0.Coords) (arg2 : Memref sig .tc .vmem S1x1x96x3072 .fp8e4m3) (harg2 : arg2.IsWhole) (arg3 : Memref sig .tc .vmem S1x1x96x3072 .fp8e4m3) (harg3 : arg3.IsWhole) (arg4 : Memref sig .tc .vmem S1x1x96x3072 .fp8e4m3) (harg4 : arg4.IsWhole) (arg5 : Memref sig .tc .vmem S1x3x24x3072 .f32) (harg5 : arg5.IsWhole) (arg6 : Memref sig .tc .vmem S1x3x24x3072 .f32) (harg6 : arg6.IsWhole) (arg7 : Memref sig .tc .vmem S1x3x24x3072 .f32) (harg7 : arg7.IsWhole) (arg8 : Memref sig .tc .vmem S1x128x96 .bf16) (harg8 : arg8.IsWhole) (arg9 : Memref sig .tc .vmem S1x1x96x3072 .bf16) (harg9 : arg9.IsWhole) (arg10 : Memref sig .tc .vmem S3072x96 .bf16) (harg10 : arg10.IsWhole) (arg11 : Memref sig .tc .vmem S96x3072 .bf16) (harg11 : arg11.IsWhole) (arg12 : Memref sig .tc .vmem S3072x96 .bf16) (harg12 : arg12.IsWhole)
  {x0 : Vec Ideal S1x1x96x3072 .fp8e4m3} {x1 : Vec Ideal S1x1x96x3072 .fp8e4m3} {x2 : Vec Ideal S1x1x96x3072 .fp8e4m3} {x3 : Vec Ideal S1x3x24x3072 .f32} {x4 : Vec Ideal S1x3x24x3072 .f32} {x5 : Vec Ideal S1x3x24x3072 .f32} {x6 : Vec Ideal S1x128x96 .bf16}
  {q k : Fin 3072 → Fin 96 → ℝ} {v : Fin 3072 → Fin 96 → EReal} {pe : ℕ → Fin 96 → ℝ}
  (hq : ∀ r d, x0 (ix4 0 0 d r) * x3 (ix4 0 (grp d) (i 1) r) = ((q r d : ℝ) : EReal))
  (hk : ∀ r d, x1 (ix4 0 0 d r) * x4 (ix4 0 (grp d) (i 1) r) = ((k r d : ℝ) : EReal))
  (hv : ∀ r d, x2 (ix4 0 0 d r) * x5 (ix4 0 (grp d) (i 1) r) = v r d)
  (hp : ∀ n d, x6 (ix3 0 n d) = ((pe n.val d : ℝ) : EReal))

theorem pb1_mem (X8 : BufTy.Contents (Elt Ideal) arg8.view.ty) (X10 : BufTy.Contents (Elt Ideal) arg10.view.ty) (X11 : BufTy.Contents (Elt Ideal) arg11.view.ty) (X12 : BufTy.Contents (Elt Ideal) arg12.view.ty)
    (n : ℕ) (hn : n ≤ k0_t1_loop.trips) (pc : View.Piece (Elt Ideal) S1x1x96x3072 .bf16)
    (h : pc ∈ pb1 (F := Ideal) c i arg2 harg2 arg3 harg3 arg4 harg4 arg5 harg5 arg6 harg6 arg7 harg7 arg8 harg8 arg9 harg9 arg10 harg10 arg11 harg11 arg12 harg12 lanes X8 X10 X11 X12 n) :
    ∃ t, pc = ⟨Rect.unit (s := S1x1x96x3072) (k0_off11 t) S1x1x96x128.size (k0_off11_inb t),
        k0_pay17 (last c i arg2 harg2 arg3 harg3 arg4 harg4 arg5 harg5 arg6 harg6 arg7 harg7 arg8 harg8 arg9 harg9 arg10 harg10 arg11 harg11 arg12 harg12 X8 X10 X11 X12 t).2.1 (last c i arg2 harg2 arg3 harg3 arg4 harg4 arg5 harg5 arg6 harg6 arg7 harg7 arg8 harg8 arg9 harg9 arg10 harg10 arg11 harg11 arg12 harg12 X8 X10 X11 X12 t).2.2⟩ := by
  induction n with
  | zero => exact absurd h List.not_mem_nil
  | succ n ih =>
    rw [pb1_succ c i arg2 harg2 arg3 harg3 arg4 harg4 arg5 harg5 arg6 harg6 arg7 harg7 arg8 harg8 arg9 harg9 arg10 harg10 arg11 harg11 arg12 harg12 lanes X8 X10 X11 X12 ⟨n, hn⟩, tripL1_eq] at h
    rcases List.mem_append.mp h with h | h
    · exact ⟨_, List.mem_singleton.mp h⟩
    · exact ih (Nat.le_of_lt hn) h

/-- The point's block, as one function of the row and the channel. -/
def blk (q k : Fin 3072 → Fin 96 → ℝ) (v : Fin 3072 → Fin 96 → EReal) (pe : ℕ → Fin 96 → ℝ) : Vec Ideal S1x1x96x3072 .bf16 :=
  fun y => out q k v pe (y 3) (y 2)

theorem piece_emb (t : Fin k0_t1_loop.trips) (w : Vec Ideal S1x1x96x128 .bf16)
    (hw : ∀ d r, w (ix4 0 0 d r) = out q k v pe (row t r) d) (x : S1x1x96x128.Idx) :
    w x = blk q k v pe ((Rect.unit (s := S1x1x96x3072) (k0_off11 t) S1x1x96x128.size (k0_off11_inb t)).emb x) := by
  have hx : x = ix4 0 0 (x 2) (x 3) := funext fun a => by
    match a with
    | 0 => exact Fin.ext (by have : (x 0).val < 1 := (x 0).isLt; show (x 0).val = 0; omega)
    | 1 => exact Fin.ext (by have : (x 1).val < 1 := (x 1).isLt; show (x 1).val = 0; omega)
    | 2 => rfl
    | 3 => rfl
  have e0 : w x = _ := (congrArg w hx).trans (hw (x 2) (x 3))
  rw [e0]
  unfold blk
  have e3 : (Rect.unit (s := S1x1x96x3072) (k0_off11 t) S1x1x96x128.size (k0_off11_inb t)).emb x 3 = row t (x 3) := Fin.ext (by
    show k0_off11 t 3 + 1 * (x 3).val = 128 * t.val + (x 3).val
    rw [k0_off11_eq]; show 128 * t.val + _ = _; omega)
  have e2 : (Rect.unit (s := S1x1x96x3072) (k0_off11 t) S1x1x96x128.size (k0_off11_inb t)).emb x 2 = x 2 := Fin.ext (by
    show k0_off11 t 2 + 1 * (x 2).val = (x 2).val
    rw [k0_off11_eq]; show 0 + _ = _; omega)
  rw [e3, e2]

include hq hk hv hp in
/-- What a grid point writes. -/
theorem block_real : out0_A_7 c i arg2 harg2 arg3 harg3 arg4 harg4 arg5 harg5 arg6 harg6 arg7 harg7 arg8 harg8 arg9 harg9 arg10 harg10 arg11 harg11 arg12 harg12 x0 x1 x2 x3 x4 x5 x6 = blk q k v pe := by
  unfold out0_A_7
  rw [View.read_writes_junk_eq_canon]
  funext y
  refine View.canon_apply_of_pieces (blk q k v pe) _ (fun pc hpc => ?_) y (cover0_A_7 c i arg2 harg2 arg3 harg3 arg4 harg4 arg5 harg5 arg6 harg6 arg7 harg7 arg8 harg8 arg9 harg9 arg10 harg10 arg11 harg11 arg12 harg12 x0 x1 x2 x3 x4 x5 x6 y)
  unfold kernelRun0_A at hpc
  dsimp only at hpc
  simp only [kernelRun0_A.sl.HS0_1, kernelRun0_A.sl.HS1_1, kernelRun0_A.sl.HS2_1, kernelRun0_A.sl.r, kernelRun0_A.sl.r_1, kernelRun0_A.sl.r_2,
    kernelRun0_A.sl.r_3, kernelRun0_A.sl.r_4, kernelRun0_A.sl.r_5, kernelRun0_A.sl.r_6] at hpc
  obtain ⟨t, rfl⟩ := pb1_mem c i arg2 harg2 arg3 harg3 arg4 harg4 arg5 harg5 arg6 harg6 arg7 harg7 arg8 harg8 arg9 harg9 arg10 harg10 arg11 harg11 arg12 harg12 _ _ _ _ _ (by decide) pc hpc
  refine fun x => piece_emb t _ (fun d r => ?_) x
  refine last_real c i arg2 harg2 arg3 harg3 arg4 harg4 arg5 harg5 arg6 harg6 arg7 harg7 arg8 harg8 arg9 harg9 arg10 harg10 arg11 harg11 arg12 harg12 (q := q) (k := k) (v := v) (pe := pe) ?_ ?_ ?_ ?_ d r
  · exact fun n d => (congrFun (harg8.read_unread x6) _).trans (hp n d)
  · intro r d
    rw [View.read_writes_full]
    exact (pay32_read r d).trans ((groups (fun u r => (cread arg2 harg2 x0 _ 0 rfl (by omega) _ u r)) (fun r => (sread arg5 harg5 x3 _ 0 (k0_off1_eq i) _ r)) (fun u r => (cread arg2 harg2 x0 _ 32 rfl (by omega) _ u r)) (fun r => (sread arg5 harg5 x3 _ 1 (k0_off2_eq i) _ r)) (fun u r => (cread arg2 harg2 x0 _ 64 rfl (by omega) _ u r)) (fun r => (sread arg5 harg5 x3 _ 2 (k0_off3_eq i) _ r)) r d).trans (hq r d))
  · intro d r
    rw [View.read_writes_full]
    exact (pay36_read r d).trans ((groups (fun u r => (cread arg3 harg3 x1 _ 0 rfl (by omega) _ u r)) (fun r => (sread arg6 harg6 x4 _ 0 (k0_off1_eq i) _ r)) (fun u r => (cread arg3 harg3 x1 _ 32 rfl (by omega) _ u r)) (fun r => (sread arg6 harg6 x4 _ 1 (k0_off2_eq i) _ r)) (fun u r => (cread arg3 harg3 x1 _ 64 rfl (by omega) _ u r)) (fun r => (sread arg6 harg6 x4 _ 2 (k0_off3_eq i) _ r)) r d).trans (hk r d))
  · intro r d
    rw [View.read_writes_full]
    exact (pay1_read r d).trans ((groups (fun u r => (cread arg4 harg4 x2 _ 0 rfl (by omega) _ u r)) (fun r => (sread arg7 harg7 x5 _ 0 (k0_off1_eq i) _ r)) (fun u r => (cread arg4 harg4 x2 _ 32 rfl (by omega) _ u r)) (fun r => (sread arg7 harg7 x5 _ 1 (k0_off2_eq i) _ r)) (fun u r => (cread arg4 harg4 x2 _ 64 rfl (by omega) _ u r)) (fun r => (sread arg7 harg7 x5 _ 2 (k0_off3_eq i) _ r)) r d).trans (hv r d))

end Block

end Cert.Proof.KI

end
-- ==== Proof.Val.Kern.lean ====
/-
  The kernel program's result: the windows' blocks are rectangles of the transposed arguments, every grid point writes its
  block of one array, and the result is that array transposed back.
-/
module

public import proofs.«01_k».proof.Proof.Val.Block
public import Idealize.ShloMosaic.Lib.StableHlo.Run

@[expose] public section

noncomputable section

namespace Cert.Proof.KI

open Cert.KernelIdeal Cert.KernelIdeal.Gen Cert.Proof.Cope
open Idealize.ShloMosaic Idealize.ShloMosaic.TcCoe Idealize.SL.Sem Idealize.ShloMosaic.StableHlo

variable (m : (ℓ : Loc nD τ sig) → Buf (Elt Ideal) ℓ)

/-! ## The arrays at the region's entry -/

theorem V_main_v3 (c : Dev nD) : V m c main_v3
    = transpose S2x24x96x3072 [0, 2, 3, 1] (bitcastToFloat (F := Ideal) .fp8e4m3 (m ((c : Thread nD τ).loc main_arg0))) transposes_S2x3072x24x96_S2x24x96x3072_0_2_3_1 := by
  show after (List.flatten [hostOps0, hostOps0_1]) _ _ = _
  simp only [List.flatten_cons, List.flatten_nil, List.append_nil, hostOps0, hostOps0_1, List.cons_append, List.nil_append]
  after_results_simp

theorem V_main_v4 (c : Dev nD) : V m c main_v4
    = transpose S2x24x96x3072 [0, 2, 3, 1] (bitcastToFloat (F := Ideal) .fp8e4m3 (m ((c : Thread nD τ).loc main_arg1))) transposes_S2x3072x24x96_S2x24x96x3072_0_2_3_1 := by
  show after (List.flatten [hostOps0, hostOps0_1]) _ _ = _
  simp only [List.flatten_cons, List.flatten_nil, List.append_nil, hostOps0, hostOps0_1, List.cons_append, List.nil_append]
  after_results_simp

theorem V_main_v5 (c : Dev nD) : V m c main_v5
    = transpose S2x24x96x3072 [0, 2, 3, 1] (bitcastToFloat (F := Ideal) .fp8e4m3 (m ((c : Thread nD τ).loc main_arg2))) transposes_S2x3072x24x96_S2x24x96x3072_0_2_3_1 := by
  show after (List.flatten [hostOps0, hostOps0_1]) _ _ = _
  simp only [List.flatten_cons, List.flatten_nil, List.append_nil, hostOps0, hostOps0_1, List.cons_append, List.nil_append]
  after_results_simp

theorem V_main_v6 (c : Dev nD) : V m c main_v6
    = transpose S2x3x24x3072 [0, 3, 2, 1] (m ((c : Thread nD τ).loc main_arg3)) transposes_S2x3072x24x3_S2x3x24x3072_0_3_2_1 := by
  show after (List.flatten [hostOps0, hostOps0_1]) _ _ = _
  simp only [List.flatten_cons, List.flatten_nil, List.append_nil, hostOps0, hostOps0_1, List.cons_append, List.nil_append]
  after_results_simp

theorem V_main_v7 (c : Dev nD) : V m c main_v7
    = transpose S2x3x24x3072 [0, 3, 2, 1] (m ((c : Thread nD τ).loc main_arg4)) transposes_S2x3072x24x3_S2x3x24x3072_0_3_2_1 := by
  show after (List.flatten [hostOps0, hostOps0_1]) _ _ = _
  simp only [List.flatten_cons, List.flatten_nil, List.append_nil, hostOps0, hostOps0_1, List.cons_append, List.nil_append]
  after_results_simp

theorem V_main_v8 (c : Dev nD) : V m c main_v8
    = transpose S2x3x24x3072 [0, 3, 2, 1] (m ((c : Thread nD τ).loc main_arg5)) transposes_S2x3072x24x3_S2x3x24x3072_0_3_2_1 := by
  show after (List.flatten [hostOps0, hostOps0_1]) _ _ = _
  simp only [List.flatten_cons, List.flatten_nil, List.append_nil, hostOps0, hostOps0_1, List.cons_append, List.nil_append]
  after_results_simp

theorem V_main_v9 (c : Dev nD) : V m c main_v9
    = pad S24x128x96 ![0, 0, 0] ![0, 88, 0] ![0, 0, 0] (m ((c : Thread nD τ).loc main_arg6)) (sitofp (F := Ideal) .bf16 (constantI S_ 32 0#32)) pads_S24x40x96_S24x128x96_000_0880_000 h_S_ := by
  show after (List.flatten [hostOps0, hostOps0_1]) _ _ = _
  simp only [List.flatten_cons, List.flatten_nil, List.append_nil, hostOps0, hostOps0_1, List.cons_append, List.nil_append]
  after_results_simp
  rfl

/-! ## The grid's points -/

/-- The batch of a grid point. -/
def bat (t : Fin grid0.N) : Fin 2 := ⟨t.val / 24, by have := t.isLt; have h : grid0.N = 48 := N_0; omega⟩
/-- The head of a grid point. -/
def hd (t : Fin grid0.N) : Fin 24 := ⟨t.val % 24, Nat.mod_lt _ (by omega)⟩

theorem coord1_val : ∀ t : Fin grid0.N, (grid0.coords t 1).val = t.val % 24 := by decide +kernel
theorem coord1 (t : Fin grid0.N) : grid0.coords t 1 = hd t := Fin.ext (coord1_val t)

theorem index0 : ∀ t : Fin grid0.N, win0_0.index t = ![t.val / 24, t.val % 24, 0, 0] := by decide +kernel
theorem index1 : ∀ t : Fin grid0.N, win0_1.index t = ![t.val / 24, t.val % 24, 0, 0] := by decide +kernel
theorem index2 : ∀ t : Fin grid0.N, win0_2.index t = ![t.val / 24, t.val % 24, 0, 0] := by decide +kernel
theorem index7 : ∀ t : Fin grid0.N, win0_7.index t = ![t.val / 24, t.val % 24, 0, 0] := by decide +kernel
theorem index3 : ∀ t : Fin grid0.N, win0_3.index t = ![t.val / 24, 0, 0, 0] := by decide +kernel
theorem index4 : ∀ t : Fin grid0.N, win0_4.index t = ![t.val / 24, 0, 0, 0] := by decide +kernel
theorem index5 : ∀ t : Fin grid0.N, win0_5.index t = ![t.val / 24, 0, 0, 0] := by decide +kernel
theorem index6 : ∀ t : Fin grid0.N, win0_6.index t = ![t.val % 24, 0, 0] := by decide +kernel

/-! ## The windows' blocks -/

theorem iblk0 (c : Dev nD) (t : Fin grid0.N) (d : Fin 96) (r : Fin 3072) :
    iblk m c 0 t (ix4 0 0 d r) = V m c main_v3 (ix4 (bat t) (hd t) d r) := by
  show V m c main_v3 ((win0_0.rect t).emb (ix4 0 0 d r)) = _
  refine congrArg (V m c main_v3) (funext fun a => Fin.ext ?_)
  rw [win0_0.rect_emb_val, index0]
  match a with
  | 0 => show t.val / 24 * 1 + 0 = t.val / 24; omega
  | 1 => show t.val % 24 * 1 + 0 = t.val % 24; omega
  | 2 => show 0 * 96 + d.val = d.val; omega
  | 3 => show 0 * 3072 + r.val = r.val; omega

theorem iblk1 (c : Dev nD) (t : Fin grid0.N) (d : Fin 96) (r : Fin 3072) :
    iblk m c 1 t (ix4 0 0 d r) = V m c main_v4 (ix4 (bat t) (hd t) d r) := by
  show V m c main_v4 ((win0_1.rect t).emb (ix4 0 0 d r)) = _
  refine congrArg (V m c main_v4) (funext fun a => Fin.ext ?_)
  rw [win0_1.rect_emb_val, index1]
  match a with
  | 0 => show t.val / 24 * 1 + 0 = t.val / 24; omega
  | 1 => show t.val % 24 * 1 + 0 = t.val % 24; omega
  | 2 => show 0 * 96 + d.val = d.val; omega
  | 3 => show 0 * 3072 + r.val = r.val; omega

theorem iblk2 (c : Dev nD) (t : Fin grid0.N) (d : Fin 96) (r : Fin 3072) :
    iblk m c 2 t (ix4 0 0 d r) = V m c main_v5 (ix4 (bat t) (hd t) d r) := by
  show V m c main_v5 ((win0_2.rect t).emb (ix4 0 0 d r)) = _
  refine congrArg (V m c main_v5) (funext fun a => Fin.ext ?_)
  rw [win0_2.rect_emb_val, index2]
  match a with
  | 0 => show t.val / 24 * 1 + 0 = t.val / 24; omega
  | 1 => show t.val % 24 * 1 + 0 = t.val % 24; omega
  | 2 => show 0 * 96 + d.val = d.val; omega
  | 3 => show 0 * 3072 + r.val = r.val; omega

theorem iblk3 (c : Dev nD) (t : Fin grid0.N) (g : Fin 3) (h : Fin 24) (r : Fin 3072) :
    iblk m c 3 t (ix4 0 g h r) = V m c main_v6 (ix4 (bat t) g h r) := by
  show V m c main_v6 ((win0_3.rect t).emb (ix4 0 g h r)) = _
  refine congrArg (V m c main_v6) (funext fun a => Fin.ext ?_)
  rw [win0_3.rect_emb_val, index3]
  match a with
  | 0 => show t.val / 24 * 1 + 0 = t.val / 24; omega
  | 1 => show 0 * 3 + g.val = g.val; omega
  | 2 => show 0 * 24 + h.val = h.val; omega
  | 3 => show 0 * 3072 + r.val = r.val; omega

theorem iblk4 (c : Dev nD) (t : Fin grid0.N) (g : Fin 3) (h : Fin 24) (r : Fin 3072) :
    iblk m c 4 t (ix4 0 g h r) = V m c main_v7 (ix4 (bat t) g h r) := by
  show V m c main_v7 ((win0_4.rect t).emb (ix4 0 g h r)) = _
  refine congrArg (V m c main_v7) (funext fun a => Fin.ext ?_)
  rw [win0_4.rect_emb_val, index4]
  match a with
  | 0 => show t.val / 24 * 1 + 0 = t.val / 24; omega
  | 1 => show 0 * 3 + g.val = g.val; omega
  | 2 => show 0 * 24 + h.val = h.val; omega
  | 3 => show 0 * 3072 + r.val = r.val; omega

theorem iblk5 (c : Dev nD) (t : Fin grid0.N) (g : Fin 3) (h : Fin 24) (r : Fin 3072) :
    iblk m c 5 t (ix4 0 g h r) = V m c main_v8 (ix4 (bat t) g h r) := by
  show V m c main_v8 ((win0_5.rect t).emb (ix4 0 g h r)) = _
  refine congrArg (V m c main_v8) (funext fun a => Fin.ext ?_)
  rw [win0_5.rect_emb_val, index5]
  match a with
  | 0 => show t.val / 24 * 1 + 0 = t.val / 24; omega
  | 1 => show 0 * 3 + g.val = g.val; omega
  | 2 => show 0 * 24 + h.val = h.val; omega
  | 3 => show 0 * 3072 + r.val = r.val; omega

theorem iblk6 (c : Dev nD) (t : Fin grid0.N) (n : Fin 128) (d : Fin 96) :
    iblk m c 6 t (ix3 0 n d) = V m c main_v9 (ix3 (hd t) n d) := by
  show V m c main_v9 ((win0_6.rect t).emb (ix3 0 n d)) = _
  refine congrArg (V m c main_v9) (funext fun a => Fin.ext ?_)
  rw [win0_6.rect_emb_val, index6]
  match a with
  | 0 => show t.val % 24 * 1 + 0 = t.val % 24; omega
  | 1 => show 0 * 128 + n.val = n.val; omega
  | 2 => show 0 * 96 + d.val = d.val; omega

theorem codes_read (x : IVec S2x3072x24x96 8) (b : Fin 2) (h : Fin 24) (d : Fin 96) (r : Fin 3072) :
    transpose S2x24x96x3072 [0, 2, 3, 1] (bitcastToFloat (F := Ideal) .fp8e4m3 x) transposes_S2x3072x24x96_S2x24x96x3072_0_2_3_1 (ix4 b h d r)
      = num (x (ix4 b r h d)) := by
  pointwise []
  rfl

theorem scales_read (x : FVec Ideal S2x3072x24x3 .f32) (b : Fin 2) (h : Fin 24) (g : Fin 3) (r : Fin 3072) :
    transpose S2x3x24x3072 [0, 3, 2, 1] x transposes_S2x3072x24x3_S2x3x24x3072_0_3_2_1 (ix4 b g h r) = x (ix4 b r h g) := by
  pointwise []

theorem table_read (x : FVec Ideal S24x40x96 .bf16) (h : Fin 24) (n : Fin 128) (d : Fin 96) :
    pad S24x128x96 ![0, 0, 0] ![0, 88, 0] ![0, 0, 0] x (sitofp (F := Ideal) .bf16 (constantI S_ 32 0#32)) pads_S24x40x96_S24x128x96_000_0880_000 h_S_ (ix3 h n d)
      = if hn : n.val < 40 then x (ix3 h ⟨n.val, hn⟩ d) else 0 := by
  have e : FloatOps.sitofp (F := Ideal) FTy.bf16 0#32 = (0 : EReal) := by
    show (((0#32 : BitVec 32).toInt : ℝ) : EReal) = 0
    simp
  pointwise []
  rw [e]

/-! ## The result -/

/-- A device's argument arrays are numbers. -/
abbrev TameAt (c : Dev nD) : Prop :=
  Tame (m ((c : Thread nD τ).loc main_arg0)) (m ((c : Thread nD τ).loc main_arg1))
    (m ((c : Thread nD τ).loc main_arg3)) (m ((c : Thread nD τ).loc main_arg4))
    (m ((c : Thread nD τ).loc main_arg6))

/-- The attention of a device's arguments. -/
def res (c : Dev nD) : Buf (Elt Ideal) ((c : Thread nD τ).loc main_v11) :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The region's array: the attention with the channel before the row. -/
def arr (c : Dev nD) : Vec Ideal S2x24x96x3072 .bf16 := fun y => res m c (ix4 (y 0) (y 3) (y 1) (y 2))

theorem outsAt_eq (c : Dev nD) (hT : TameAt m c) (t : Fin grid0.N) :
    outsAt0 m c t = blk (head (m ((c : Thread nD τ).loc main_arg0)) (m ((c : Thread nD τ).loc main_arg3)) (bat t) (hd t))
      (head (m ((c : Thread nD τ).loc main_arg1)) (m ((c : Thread nD τ).loc main_arg4)) (bat t) (hd t))
      (vals (m ((c : Thread nD τ).loc main_arg2)) (m ((c : Thread nD τ).loc main_arg5)) (bat t) (hd t))
      (emb (m ((c : Thread nD τ).loc main_arg6)) (hd t)) := by
  unfold outsAt0
  refine block_real c (grid0.coords t) _ _ _ _ _ _ _ _ _ _ _ _ _ _ _ _ _ _ _ _ _ _ ?_ ?_ ?_ ?_
  · intro r d
    rw [coord1, iblk0, iblk3, V_main_v3, V_main_v6, codes_read, scales_read]
    exact head_mul hT.xq hT.sq _ _ _ _
  · intro r d
    rw [coord1, iblk1, iblk4, V_main_v4, V_main_v7, codes_read, scales_read]
    exact head_mul hT.xk hT.sk _ _ _ _
  · intro r d
    rw [coord1, iblk2, iblk5, V_main_v5, V_main_v8, codes_read, scales_read]
    exact rfl
  · intro n d
    rw [iblk6, V_main_v9, table_read]
    unfold emb
    by_cases hn : n.val < 40
    · rw [dif_pos hn, dif_pos hn]; exact hT.p _
    · rw [dif_neg hn, dif_neg hn]; rfl

theorem flushed_eq (c : Dev nD) (hT : TameAt m c) (t : Fin (cfg0 (F := Ideal)).N) :
    (dats m 0 c).flushed 7 t = (win0_7.blk t).view.read (Elt Ideal) (arr m c) := by
  show ((cfg0 (F := Ideal)).win 7).cut (grid0.coords t) ((dats m 0 c).after 7 t) = _
  rw [after0_7, outsAt_eq m c hT t]
  funext y
  show blk _ _ _ _ y = arr m c ((win0_7.rect t).emb y)
  have e0 : ((win0_7.rect t).emb y 0 : Fin 2) = bat t := Fin.ext (by
    rw [win0_7.rect_emb_val, index7]
    have : (y 0).val < 1 := (y 0).isLt
    show t.val / 24 * 1 + (y 0).val = t.val / 24; omega)
  have e1 : ((win0_7.rect t).emb y 1 : Fin 24) = hd t := Fin.ext (by
    rw [win0_7.rect_emb_val, index7]
    have : (y 1).val < 1 := (y 1).isLt
    show t.val % 24 * 1 + (y 1).val = t.val % 24; omega)
  have e2 : ((win0_7.rect t).emb y 2 : Fin 96) = y 2 := Fin.ext (by
    rw [win0_7.rect_emb_val, index7]
    show 0 * 96 + (y 2).val = (y 2).val; omega)
  have e3 : ((win0_7.rect t).emb y 3 : Fin 3072) = y 3 := Fin.ext (by
    rw [win0_7.rect_emb_val, index7]
    show 0 * 3072 + (y 3).val = (y 3).val; omega)
  unfold arr
  rw [e0, e1, e2, e3]
  rfl

theorem mem_blk (t : Fin (cfg0 (F := Ideal)).N) (i : S2x24x96x3072.Idx) (h0 : (i 0).val = t.val / 24) (h1 : (i 1).val = t.val % 24) :
    i ∈ (((cfg0 (F := Ideal)).win 7).blk t).view.set := by
  show i ∈ ((View.whole main_v10).slice (win0_7.rect t)).set
  rw [View.set_slice_whole, Rect.mem_set_unit]
  have h2 : (i 2).val < 96 := (i 2).isLt
  have h3 : (i 3).val < 3072 := (i 3).isLt
  intro a
  show win0_7.index t a * win0_7.size a ≤ (i a).val ∧ (i a).val < win0_7.index t a * win0_7.size a + win0_7.size a
  rw [index7]
  match a with
  | 0 => show t.val / 24 * 1 ≤ (i 0).val ∧ (i 0).val < t.val / 24 * 1 + 1; omega
  | 1 => show t.val % 24 * 1 ≤ (i 1).val ∧ (i 1).val < t.val % 24 * 1 + 1; omega
  | 2 => show 0 * 96 ≤ (i 2).val ∧ (i 2).val < 0 * 96 + 96; omega
  | 3 => show 0 * 3072 ≤ (i 3).val ∧ (i 3).val < 0 * 3072 + 3072; omega

theorem cover (i : S2x24x96x3072.Idx) :
    ∃ t : Fin (cfg0 (F := Ideal)).N, ((cfg0 (F := Ideal)).win 7).flush t = true ∧ i ∈ (((cfg0 (F := Ideal)).win 7).blk t).view.set := by
  have h0 : (i 0).val < 2 := (i 0).isLt
  have h1 : (i 1).val < 24 := (i 1).isLt
  have hN : (cfg0 (F := Ideal)).N = 48 := N_0
  refine ⟨⟨(i 0).val * 24 + (i 1).val, by omega⟩, flush0_7 _, mem_blk _ i ?_ ?_⟩
  · show (i 0).val = ((i 0).val * 24 + (i 1).val) / 24; omega
  · show (i 1).val = ((i 0).val * 24 + (i 1).val) % 24; omega

theorem final (c : Dev nD) (hT : TameAt m c) : (dats m 0 c).arrAt 7 (cfg0 (F := Ideal)).N = arr m c :=
  (dats m 0 c).arrAt_eq_of_cover 7 (arr m c) (fun t _ => flushed_eq m c hT t) cover

theorem back (x : Vec Ideal S2x24x96x3072 .bf16) (y : S2x3072x24x96.Idx) :
    transpose S2x3072x24x96 [0, 3, 1, 2] x transposes_S2x24x96x3072_S2x3072x24x96_0_3_1_2 y = x (ix4 (y 0) (y 2) (y 3) (y 1)) := by
  obtain ⟨a, b, d, e, rfl⟩ : ∃ a b d e, y = ix4 a b d e := ⟨y 0, y 1, y 2, y 3, funext fun a => by fin_cases a <;> rfl⟩
  pointwise []

theorem tail_eq (c : Dev nD) (hT : TameAt m c) :
    Pipeline.afterTail₀ (cfgs (F := Ideal)) (dats m) 0 (V0 m) [hostOps1] c main_v11 = res m c := by
  unfold Pipeline.afterTail₀
  simp only [List.flatten_cons, List.flatten_nil, List.append_nil, hostOps1]
  after_results_simp
  rw [Pipeline.withArrays_arr (spec0) (launch0 (F := Ideal)).win.arr_inj c (V0 m c) _ 7]
  show transpose S2x3072x24x96 [0, 3, 1, 2] ((dats m 0 c).arrAt 7 (cfg0 (F := Ideal)).N) _ = _
  rw [final m c hT]
  funext y
  rw [back]
  exact congrArg (res m c) (funext fun a => by fin_cases a <;> rfl)

variable (ρ : Dev nD → PrngReg)

/-- The kernel program ends with the attention of its arguments, which it leaves unchanged. -/
theorem kernel_run (hT : ∀ c, TameAt m c) : θ_run defs (onTc (τ := τ) (main (F := Ideal))) ⟨m, fun _ => 0, ρ⟩ (fun r => ∀ c : Dev nD,
      r.2.mem ((c.tc : Thread nD τ).loc main_v11) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c, h.2 c⟩)
    (θ_run_and (Q₁ := fun r => ∀ c : Dev nD, r.2.mem ((c.tc : Thread nD τ).loc main_v11) = res m c) ((θ_run defs _ _).mono (fun _ h c => ((h c).2 main_v11 (Pipeline.mem_restRefs_of main_v11 (by decide)
      (by exact (by decide : ∀ w, (spec0 w).arr.view.ref ≠ main_v11)))).trans (tail_eq m c (hT c))) (run_main m ρ)) (unchanged m ρ))

end Cert.Proof.KI

end
-- ==== Proof.Val.Window.lean ====
/-
  A sum over a window that starts at the result's own column and runs to the end of the row is the sum over the columns from
  there on.
-/
module

public import Idealize.ShloMosaic.PureOps.Ideal.Laws
public import Idealize.ShloMosaic.Lib.Pointwise

@[expose] public section

noncomputable section

namespace Cert.Proof.Cope

open Idealize.ShloMosaic

theorem foldl_add {ι : Type*} (l : List ι) (f : ι → EReal) (v : EReal) :
    l.foldl (fun r k => r + f k) v = v + (l.map f).sum := by
  induction l generalizing v with
  | nil => simp
  | cons a l ih => rw [List.foldl_cons, ih, List.map_cons, List.sum_cons, add_assoc]

theorem foldl_finRange {n : ℕ} (f : Fin n → EReal) : (List.finRange n).foldl (fun r k => r + f k) 0 = ∑ k, f k := by
  rw [foldl_add, zero_add, Fin.sum_univ_def]

theorem sum_from (c : Fin 3072) (x : Fin 3072 → EReal) :
    (∑ k : Fin 3072, if h : c.val + k.val < 3072 then x ⟨c.val + k.val, h⟩ else 0)
      = ∑ c' : Fin 3072, if c.val ≤ c'.val then x c' else 0 := by
  have e : ∀ k : Fin 3072, (if h : c.val + k.val < 3072 then x ⟨c.val + k.val, h⟩ else 0)
      = if c.val + k.val < 3072 then x ⟨(c.val + k.val) % 3072, Nat.mod_lt _ (by omega)⟩ else 0 := by
    intro k
    by_cases h : c.val + k.val < 3072
    · rw [dif_pos h, if_pos h]; exact congrArg x (Fin.ext (Nat.mod_eq_of_lt h).symm)
    · rw [dif_neg h, if_neg h]
  rw [Finset.sum_congr rfl fun k _ => e k, ← Finset.sum_filter, ← Finset.sum_filter]
  refine Finset.sum_nbij' (fun k => ⟨(c.val + k.val) % 3072, Nat.mod_lt _ (by omega)⟩)
    (fun c' => ⟨c'.val - c.val, by omega⟩) ?_ ?_ ?_ ?_ ?_
  · intro k hk
    have := (Finset.mem_filter.mp hk).2
    refine Finset.mem_filter.mpr ⟨Finset.mem_univ _, ?_⟩
    show c.val ≤ (c.val + k.val) % 3072
    rw [Nat.mod_eq_of_lt this]; omega
  · intro k hk
    have := (Finset.mem_filter.mp hk).2
    refine Finset.mem_filter.mpr ⟨Finset.mem_univ _, ?_⟩
    show c.val + (k.val - c.val) < 3072
    omega
  · intro k hk
    have := (Finset.mem_filter.mp hk).2
    refine Fin.ext ?_
    show (c.val + k.val) % 3072 - c.val = k.val
    rw [Nat.mod_eq_of_lt this]; omega
  · intro k hk
    have := (Finset.mem_filter.mp hk).2
    refine Fin.ext ?_
    show (c.val + (k.val - c.val)) % 3072 = k.val
    rw [Nat.mod_eq_of_lt] <;> omega
  · intro k hk; rfl

abbrev SW : Shape := ⟨4, ![2, 24, 3072, 3072]⟩

theorem window_sum {u : Shape} (x : SW.Idx → EReal) (init : u.Idx → EReal) (hu : 0 < u.numel) (hi : init (Shape.Idx.first hu) = 0)
    (h : SW.ReduceWindows ![1, 1, 1, 3072] ![1, 1, 1, 1] ![0, 0, 0, 0] ![0, 0, 0, 3071] SW) (b : Fin 2) (hh : Fin 24) (i c : Fin 3072) :
    Host.reduceWindowAdd (F := Ideal) (φ := .f32) (s := SW) (t := SW) ![1, 1, 1, 3072] ![1, 1, 1, 1] ![0, 0, 0, 0] ![0, 0, 0, 3071] x init h hu (ix4 b hh i c)
      = ∑ c' : Fin 3072, if c.val ≤ c'.val then x (ix4 b hh i c') else 0 := by
  unfold Host.reduceWindowAdd
  rw [hi, Ideal.hostReduceWindowAdd_def]
  unfold Ideal.hostReduceWindowAdd Host.reduceWindow
  dsimp only
  rw [foldl_finRange, ← sum_from c fun c' => x (ix4 b hh i c')]
  refine (Fintype.sum_equiv (Shape.rowMajor ⟨4, ![1, 1, 1, 3072]⟩).symm _ (fun w => if h : c.val + (w 3).val < 3072 then x (ix4 b hh i ⟨c.val + (w 3).val, h⟩) else 0) ?_).trans ?_
  · intro n
    let w := (Shape.rowMajor ⟨4, ![1, 1, 1, 3072]⟩).symm n
    have w0 : (w 0).val < 1 := (w 0).isLt
    have w1 : (w 1).val < 1 := (w 1).isLt
    have w2 : (w 2).val < 1 := (w 2).isLt
    by_cases hc : c.val + (w 3).val < 3072
    · refine (dif_pos ?_).trans (Eq.trans ?_ (dif_pos hc).symm)
      rotate_left
      · refine congrArg x (funext fun a => Fin.ext ?_)
        match a with
        | 0 => show b.val * 1 + (w 0).val - 0 = b.val; omega
        | 1 => show hh.val * 1 + (w 1).val - 0 = hh.val; omega
        | 2 => show i.val * 1 + (w 2).val - 0 = i.val; omega
        | 3 => show c.val * 1 + (w 3).val - 0 = c.val + (w 3).val; omega
      · intro a
        match a with
        | 0 => show 0 ≤ b.val * 1 + (w 0).val ∧ b.val * 1 + (w 0).val - 0 < 2; omega
        | 1 => show 0 ≤ hh.val * 1 + (w 1).val ∧ hh.val * 1 + (w 1).val - 0 < 24; omega
        | 2 => show 0 ≤ i.val * 1 + (w 2).val ∧ i.val * 1 + (w 2).val - 0 < 3072; omega
        | 3 => show 0 ≤ c.val * 1 + (w 3).val ∧ c.val * 1 + (w 3).val - 0 < 3072; omega
    · refine (dif_neg ?_).trans (dif_neg (e := fun _ => (0 : EReal)) hc).symm
      intro h
      have h3 : 0 ≤ c.val * 1 + (w 3).val ∧ c.val * 1 + (w 3).val - 0 < 3072 := h 3
      omega
  · refine Fintype.sum_equiv ⟨fun w => w 3, fun k => ix4 0 0 0 k, fun w => funext fun a => ?_, fun k => rfl⟩ _ _ fun w => rfl
    match a with
    | 0 => exact Fin.ext (by have : (w 0).val < 1 := (w 0).isLt; show 0 = (w 0).val; omega)
    | 1 => exact Fin.ext (by have : (w 1).val < 1 := (w 1).isLt; show 0 = (w 1).val; omega)
    | 2 => exact Fin.ext (by have : (w 2).val < 1 := (w 2).isLt; show 0 = (w 2).val; omega)
    | 3 => rfl

end Cert.Proof.Cope

end
-- ==== Proof.Val.RefA.lean ====
/-
  The reference's operations read over the reals, up to the gates.
-/
module

public import proofs.«01_k».proof.Proof.Gen.ReferenceIdeal.Read
public import proofs.«01_k».proof.Proof.Val.Arr
public import proofs.«01_k».proof.Proof.Val.Window
public import Idealize.ShloMosaic.Lib.WordCmp
public import Idealize.ShloMosaic.Lib.IdealHost

@[expose] public section

noncomputable section

namespace Cert.Proof.Ref

open Cert.ReferenceIdeal Cert.ReferenceIdeal.Gen Cert.ReferenceIdeal.Read Cert.Proof.Cope
open Idealize.ShloMosaic Idealize.ShloMosaic.TcCoe

variable {x3 x4 x5 : (⟨S2x3072x24x3, .f32⟩ : BufTy).Contents (Elt Ideal)} {x6 : (⟨S24x40x96, .bf16⟩ : BufTy).Contents (Elt Ideal)}
  {r0 r1 r2 : (⟨S2x3072x24x96, .bf16⟩ : BufTy).Contents (Elt Ideal)}
variable {Q K V : Fin 2 → Fin 24 → Fin 3072 → Fin 96 → ℝ} {P : Fin 24 → ℕ → Fin 96 → ℝ}

/-- Codes times scales are the numbers `Q`. -/
def Reads (r : (⟨S2x3072x24x96, .bf16⟩ : BufTy).Contents (Elt Ideal)) (x : (⟨S2x3072x24x3, .f32⟩ : BufTy).Contents (Elt Ideal))
    (Q : Fin 2 → Fin 24 → Fin 3072 → Fin 96 → ℝ) : Prop :=
  ∀ b i h d, (r (ix4 b i h d) : EReal) * (x (ix4 b i h (grp d)) : EReal) = ((Q b h i d : ℝ) : EReal)

theorem idx9 (b : Fin 2) (h : Fin 24) (i : Fin 3072) (d : Fin 96) :
    idx_main_v9 (idx_main_v10 (ix4 b h i d)) = ix5 b i h (grp d) ⟨d.val % 32, Nat.mod_lt _ (by omega)⟩ := by
  funext a
  refine Fin.ext ?_
  match a with
  | 0 => show (((b.val * 3072 + i.val) * 24 + h.val) * 96 + d.val) / 7077888 = b.val; omega
  | 1 => show (((b.val * 3072 + i.val) * 24 + h.val) * 96 + d.val) / 2304 % 3072 = i.val; omega
  | 2 => show (((b.val * 3072 + i.val) * 24 + h.val) * 96 + d.val) / 96 % 24 = h.val; omega
  | 3 => show (((b.val * 3072 + i.val) * 24 + h.val) * 96 + d.val) / 32 % 3 = d.val / 32; omega
  | 4 => show (((b.val * 3072 + i.val) * 24 + h.val) * 96 + d.val) % 32 = d.val % 32; omega

theorem idx4 (b : Fin 2) (h : Fin 24) (i : Fin 3072) (d : Fin 96) :
    idx_main_v4 (ix5 b i h (grp d) ⟨d.val % 32, Nat.mod_lt _ (by omega)⟩) = ix4 b i h d := by
  funext a
  refine Fin.ext ?_
  match a with
  | 0 => show ((((b.val * 3072 + i.val) * 24 + h.val) * 3 + d.val / 32) * 32 + d.val % 32) / 7077888 = b.val; omega
  | 1 => show ((((b.val * 3072 + i.val) * 24 + h.val) * 3 + d.val / 32) * 32 + d.val % 32) / 2304 % 3072 = i.val; omega
  | 2 => show ((((b.val * 3072 + i.val) * 24 + h.val) * 3 + d.val / 32) * 32 + d.val % 32) / 96 % 24 = h.val; omega
  | 3 => show ((((b.val * 3072 + i.val) * 24 + h.val) * 3 + d.val / 32) * 32 + d.val % 32) % 96 = d.val; omega

theorem idx6 (b : Fin 2) (h : Fin 24) (i : Fin 3072) (d : Fin 96) (e : Fin 32) :
    idx_main_v6 (idx_main_v7 (ix5 b i h (grp d) e)) = ix4 b i h (grp d) := by
  funext a
  match a with
  | 0 => rfl
  | 1 => rfl
  | 2 => rfl
  | 3 => rfl

theorem read_x (b : Fin 2) (h : Fin 24) (i : Fin 3072) (d : Fin 96) :
    val_main_v10 (F := Ideal) x3 r0 (ix4 b h i d) = (r0 (ix4 b i h d) : EReal) * (x3 (ix4 b i h (grp d)) : EReal) := by
  rw [val_main_v10_apply, val_main_v9_apply, idx9, val_main_v8_apply, val_main_v4_apply, val_main_v7_apply, val_main_v6_apply,
    val_main_v5_apply, idx4, idx6]
  rfl

theorem read_q (hq : Reads r0 x3 Q) (b : Fin 2) (h : Fin 24) (i : Fin 3072) (d : Fin 96) :
    val_main_v10 (F := Ideal) x3 r0 (ix4 b h i d) = ((Q b h i d : ℝ) : EReal) := (read_x b h i d).trans (hq b i h d)

theorem read_k (hk : Reads r1 x4 K) (b : Fin 2) (h : Fin 24) (i : Fin 3072) (d : Fin 96) :
    val_main_v17 (F := Ideal) x4 r1 (ix4 b h i d) = ((K b h i d : ℝ) : EReal) := read_q hk b h i d

theorem read_v {VE : Fin 2 → Fin 24 → Fin 3072 → Fin 96 → EReal}
    (hv : ∀ b i h d, (r2 (ix4 b i h d) : EReal) * (x5 (ix4 b i h (grp d)) : EReal) = VE b h i d) (b : Fin 2) (h : Fin 24) (i : Fin 3072) (d : Fin 96) :
    val_main_v24 (F := Ideal) x5 r2 (ix4 b h i d) = VE b h i d := (read_x (x3 := x5) (r0 := r2) b h i d).trans (hv b i h d)

theorem read_dot (hq : Reads r0 x3 Q) (hk : Reads r1 x4 K) (b : Fin 2) (h : Fin 24) (i c : Fin 3072) :
    val_main_v25 (F := Ideal) x3 x4 r0 r1 (ix4 b h i c) = ((∑ d, Q b h i d * K b h c d : ℝ) : EReal) := by
  rw [val_main_v25_apply, coe_sum]
  refine Finset.sum_congr rfl fun d _ => ?_
  have el : lidx_main_v25 (ix4 b h i c) d = ix4 b h i d := funext fun a => by fin_cases a <;> rfl
  have er : ridx_main_v25 (ix4 b h i c) d = ix4 b h c d := funext fun a => by fin_cases a <;> rfl
  rw [el, er, read_q hq, read_k hk, EReal.coe_mul]

theorem b96 : Ideal.ofBits .f32 0x42C00000#32 = ((96 : ℝ) : EReal) := by
  simp [Ideal.ofBits, Ideal.ieee, -EReal.coe_mul]; try norm_num
theorem b1 : Ideal.ofBits .f32 0x3F800000#32 = ((1 : ℝ) : EReal) := by
  simp [Ideal.ofBits, Ideal.ieee, -EReal.coe_mul]; try norm_num
theorem b0 : Ideal.ofBits .f32 0x00000000#32 = ((0 : ℝ) : EReal) := by
  simp [Ideal.ofBits, Ideal.ieee, -EReal.coe_mul]; try norm_num
theorem b39 : Ideal.ofBits .f32 0x421C0000#32 = ((39 : ℝ) : EReal) := by
  simp [Ideal.ofBits, Ideal.ieee, -EReal.coe_mul]; try norm_num
theorem b38 : Ideal.ofBits .f32 0x42180000#32 = ((38 : ℝ) : EReal) := by
  simp [Ideal.ofBits, Ideal.ieee, -EReal.coe_mul]; try norm_num
theorem bbot : Ideal.ofBits .f32 0xFF800000#32 = (⊥ : EReal) := by
  simp [Ideal.ofBits, Ideal.ieee]; try norm_num

theorem read_s (hq : Reads r0 x3 Q) (hk : Reads r1 x4 K) (b : Fin 2) (h : Fin 24) (i c : Fin 3072) :
    val_main_v28 (F := Ideal) x3 x4 r0 r1 (ix4 b h i c) = ((sc (Q b h) (K b h) i c : ℝ) : EReal) := by
  rw [val_main_v28_apply, read_dot hq hk, val_main_v27_apply, val_main_v26_apply, val_main_cst_apply]
  show Ideal.div _ (Ideal.sqrt (Ideal.ofBits .f32 0x42C00000#32)) = _
  rw [b96, Ideal.sqrt_coe, if_neg (by norm_num), Ideal.div_coe (by positivity), ← EReal.coe_mul]
  unfold sc
  rw [one_div, ← div_eq_mul_inv]

theorem mask (i c : Fin 3072) : val_main_v35 (F := Ideal) (fun a => match a with | ⟨0, _⟩ => i | ⟨1, _⟩ => c) = if c ≤ i then 1#1 else 0#1 := by
  rw [val_main_v35_apply, val_main_v33_apply, val_main_v34_apply, val_main_v30_apply, val_main_v32_apply, val_main_v29_apply, val_main_v31_apply]
  show IntOp.cmpi .sle (BitVec.ofNat 32 c.val) (BitVec.ofNat 32 i.val) = _
  by_cases h : c ≤ i
  · rw [if_pos h, WordCmp.cmpi_sle_ofNat_eq_one_iff (by omega) (by omega)]; exact h
  · rw [if_neg h]
    have := (WordCmp.cmpi_sle_ofNat_eq_one_iff (w := 32) (a := c.val) (b := i.val) (by omega) (by omega)).not.mpr h
    generalize IntOp.cmpi .sle (BitVec.ofNat 32 c.val) (BitVec.ofNat 32 i.val) = z at this ⊢
    revert this; revert z; decide

theorem mask0 (b : Fin 2) (h : Fin 24) (i c : Fin 3072) : val_main_call0_v1 (F := Ideal) (ix4 b h i c) = if c ≤ i then 1#1 else 0#1 := by
  rw [val_main_call0_v1_apply, ← mask]
  exact congrArg _ (funext fun a => by fin_cases a <;> rfl)

theorem mask4 (b : Fin 2) (h : Fin 24) (i c : Fin 3072) : val_main_call4_v1 (F := Ideal) (ix4 b h i c) = if c ≤ i then 1#1 else 0#1 := by
  rw [val_main_call4_v1_apply, ← mask]
  exact congrArg _ (funext fun a => by fin_cases a <;> rfl)

theorem read_gate (hq : Reads r0 x3 Q) (hk : Reads r1 x4 K) (b : Fin 2) (h : Fin 24) (i c : Fin 3072) :
    val_main_v42 (F := Ideal) x3 x4 r0 r1 (ix4 b h i c) = ((gate (Q b h) (K b h) i c : ℝ) : EReal) := by
  rw [val_main_v42_apply, mask0, val_main_v41_apply, val_main_v40_apply, val_main_v39_apply, val_main_v38_apply, val_main_v37_apply,
    val_main_v36_apply, read_s hq hk, val_main_call0_v2_apply, val_main_call0_v0_apply, val_main_cst_2_apply, val_main_cst_1_apply, val_main_cst_0_apply]
  unfold gate
  by_cases hc : c ≤ i
  · rw [if_pos hc, if_pos hc]
    show Ideal.div (Ideal.ofBits .f32 0x3F800000#32) (Ideal.ofBits .f32 0x3F800000#32 + Ideal.exp (-((sc (Q b h) (K b h) i c : ℝ) : EReal))) = _
    rw [b1, ← EReal.coe_neg, Ideal.exp_coe, ← EReal.coe_add, Ideal.div_coe (by positivity), ← EReal.coe_mul, one_mul, one_div]
  · rw [if_neg hc, if_neg hc]
    exact b0

theorem read_cum (hq : Reads r0 x3 Q) (hk : Reads r1 x4 K) (b : Fin 2) (h : Fin 24) (i c : Fin 3072) :
    val_main_v43 (F := Ideal) x3 x4 r0 r1 (ix4 b h i c) = ((cum (Q b h) (K b h) i c.val : ℝ) : EReal) := by
  unfold val_main_v43
  refine (window_sum (u := S_) _ _ _ ?_ _ b h i c).trans ?_
  · rw [val_main_call1_v0_apply, val_main_call1_cst_apply]; exact b0
  · unfold cum
    rw [coe_sum]
    refine Finset.sum_congr rfl fun c' _ => ?_
    rw [read_gate hq hk]
    split <;> rfl

end Cert.Proof.Ref

end
-- ==== Proof.Val.RefB.lean ====
/-
  The reference's operations read over the reals: positions, the position term, the softmax and the result.
-/
module

public import proofs.«01_k».proof.Proof.Val.RefA

@[expose] public section

noncomputable section

namespace Cert.Proof.Ref

open Cert.ReferenceIdeal Cert.ReferenceIdeal.Gen Cert.ReferenceIdeal.Read Cert.Proof.Cope
open Idealize.ShloMosaic Idealize.ShloMosaic.TcCoe

variable {x3 x4 x5 : (⟨S2x3072x24x3, .f32⟩ : BufTy).Contents (Elt Ideal)} {x6 : (⟨S24x40x96, .bf16⟩ : BufTy).Contents (Elt Ideal)}
  {r0 r1 r2 : (⟨S2x3072x24x96, .bf16⟩ : BufTy).Contents (Elt Ideal)}
variable {Q K V : Fin 2 → Fin 24 → Fin 3072 → Fin 96 → ℝ} {P : Fin 24 → ℕ → Fin 96 → ℝ}

theorem coe_min (a b : ℝ) : min (a : EReal) (b : EReal) = ((min a b : ℝ) : EReal) := (EReal.coe_strictMono.monotone.map_min).symm

theorem read_pos (hq : Reads r0 x3 Q) (hk : Reads r1 x4 K) (b : Fin 2) (h : Fin 24) (i c : Fin 3072) :
    val_main_v45 (F := Ideal) x3 x4 r0 r1 (ix4 b h i c) = ((pos (Q b h) (K b h) i c : ℝ) : EReal) := by
  rw [val_main_v45_apply, read_cum hq hk, val_main_v44_apply, val_main_cst_3_apply]
  show min _ (Ideal.ofBits .f32 0x421C0000#32) = _
  rw [b39, coe_min]
  rfl

theorem floor_min (p : ℝ) (hp : 0 ≤ p) : min ((⌊p⌋ : ℤ) : ℝ) 38 = ((min ⌊p⌋₊ 38 : ℕ) : ℝ) := by
  rw [← natCast_floor_eq_intCast_floor hp, Nat.cast_min]
  rfl

theorem read_fl (hq : Reads r0 x3 Q) (hk : Reads r1 x4 K) (b : Fin 2) (h : Fin 24) (i c : Fin 3072) :
    val_main_v48 (F := Ideal) x3 x4 r0 r1 (ix4 b h i c) = (((flr (Q b h) (K b h) i c : ℕ) : ℝ) : EReal) := by
  rw [val_main_v48_apply, val_main_v46_apply, read_pos hq hk, val_main_v47_apply, val_main_cst_4_apply]
  rw [Ideal.hostUnary_floor_def, Ideal.liftRound_coe]
  show min _ (Ideal.ofBits .f32 0x42180000#32) = _
  rw [b38, coe_min, floor_min _ (pos_nonneg _ _ i c)]
  rfl

theorem flr_le (q k : Fin 3072 → Fin 96 → ℝ) (i c : Fin 3072) : flr q k i c ≤ 38 := min_le_right _ _

theorem read_idx (hq : Reads r0 x3 Q) (hk : Reads r1 x4 K) (b : Fin 2) (h : Fin 24) (i c : Fin 3072) :
    val_main_v49 (F := Ideal) x3 x4 r0 r1 (ix4 b h i c) = BitVec.ofNat 32 (flr (Q b h) (K b h) i c) := by
  rw [val_main_v49_apply, read_fl hq hk]
  have := flr_le (Q b h) (K b h) i c
  generalize flr (Q b h) (K b h) i c = n at this ⊢
  show Ideal.fptosi 32 _ = _
  unfold Ideal.fptosi
  have h0 : (0 : ℝ) ≤ (n : ℝ) := Nat.cast_nonneg n
  rw [Ideal.toIntClamped_coe, if_pos h0, ← Int.natCast_floor_eq_floor h0, Nat.floor_natCast]
  rw [max_eq_right, min_eq_right]
  · exact BitVec.ofInt_natCast _ _
  · norm_num; omega
  · norm_num

theorem read_w (hq : Reads r0 x3 Q) (hk : Reads r1 x4 K) (b : Fin 2) (h : Fin 24) (i c : Fin 3072) :
    val_main_v51 (F := Ideal) x3 x4 r0 r1 (ix4 b h i c)
      = ((pos (Q b h) (K b h) i c - (flr (Q b h) (K b h) i c : ℝ) : ℝ) : EReal) := by
  rw [val_main_v51_apply, val_main_v50_apply, read_pos hq hk, read_idx hq hk]
  have := flr_le (Q b h) (K b h) i c
  generalize flr (Q b h) (K b h) i c = n at this ⊢
  show _ - (((BitVec.ofNat 32 n).toInt : ℝ) : EReal) = _
  rw [BitVec.toInt_eq_toNat_of_lt (by simp; omega), BitVec.toNat_ofNat, Nat.mod_eq_of_lt (by omega), Int.cast_natCast, EReal.coe_sub]

theorem read_z (hq : Reads r0 x3 Q) (hp : ∀ h n d, (x6 (ix3 h n d) : EReal) = ((P h n.val d : ℝ) : EReal)) (b : Fin 2) (h : Fin 24)
    (i : Fin 3072) (n : Fin 40) :
    val_main_v53 (F := Ideal) x3 x6 r0 (ix4 b h i n) = ((zz (Q b h) (P h) i n.val : ℝ) : EReal) := by
  rw [val_main_v53_apply, val_main_v52_apply]
  unfold zz
  rw [coe_sum]
  refine Finset.sum_congr rfl fun d _ => ?_
  have el : lidx_main_v52 (idx_main_v53 (ix4 b h i n)) d = ix3 h n d := funext fun a => by fin_cases a <;> rfl
  have er : ridx_main_v52 (idx_main_v53 (ix4 b h i n)) d = ix4 b h i d := funext fun a => by fin_cases a <;> rfl
  rw [el, er, read_q hq, hp, EReal.coe_mul, mul_comm]

theorem read_at (hq : Reads r0 x3 Q) (hk : Reads r1 x4 K) (b : Fin 2) (h : Fin 24) (i c : Fin 3072) (n : Fin 39) :
    val_main_v59 (F := Ideal) x3 x4 r0 r1 (ix5 b h i c n) = if flr (Q b h) (K b h) i c = n.val then 1#1 else 0#1 := by
  rw [val_main_v59_apply, val_main_v57_apply, val_main_v54_apply, val_main_v58_apply, val_main_v56_apply, val_main_v55_apply]
  have e : idx_main_v54 (idx_main_v57 (ix5 b h i c n)) = ix4 b h i c := funext fun a => by fin_cases a <;> rfl
  rw [e, read_idx hq hk]
  have := flr_le (Q b h) (K b h) i c
  show IntOp.cmpi .eq (BitVec.ofNat 32 _) (BitVec.ofNat 32 n.val) = _
  rw [WordCmp.cmpi_eq_ofNat (by omega) (by omega)]
  by_cases hn : flr (Q b h) (K b h) i c = n.val
  · rw [if_pos hn, decide_eq_true hn]; rfl
  · rw [if_neg hn, decide_eq_false hn]; rfl

theorem pick (m : ℕ) (hm : m ≤ 38) (f : ℕ → EReal) : (∑ n : Fin 39, if m = n.val then f n.val else 0) = f m := by
  rw [Finset.sum_eq_single (⟨m, by omega⟩ : Fin 39) (fun n _ hn => if_neg fun e => hn (Fin.ext e.symm)) (fun h => absurd (Finset.mem_univ _) h)]
  exact if_pos rfl

theorem read_lo (hq : Reads r0 x3 Q) (hk : Reads r1 x4 K) (hp : ∀ h n d, (x6 (ix3 h n d) : EReal) = ((P h n.val d : ℝ) : EReal))
    (b : Fin 2) (h : Fin 24) (i c : Fin 3072) :
    val_main_v63 (F := Ideal) x3 x4 x6 r0 r1 (ix4 b h i c) = ((zz (Q b h) (P h) i (flr (Q b h) (K b h) i c) : ℝ) : EReal) := by
  rw [val_main_v63_apply, val_main_cst_6_apply]
  show Ideal.ofBits .f32 0x00000000#32 + _ = _
  rw [b0, EReal.coe_zero, zero_add, ← pick _ (flr_le (Q b h) (K b h) i c) fun n => ((zz (Q b h) (P h) i n : ℝ) : EReal)]
  refine Finset.sum_congr rfl fun n _ => ?_
  have e : idx_main_v63 (ix4 b h i c) n = ix5 b h i c n := funext fun a => by fin_cases a <;> rfl
  rw [e, val_main_v62_apply, read_at hq hk, val_main_call2_v1_apply, val_main_v61_apply, val_main_v60_apply, val_main_call2_v2_apply,
    val_main_call2_v0_apply, val_main_cst_5_apply]
  have e2 : idx_main_v60 (idx_main_v61 (idx_main_call2_v1 (ix5 b h i c n))) = ix4 b h i ⟨n.val, by omega⟩ := funext fun a => by
    match a with
    | 0 => rfl
    | 1 => rfl
    | 2 => rfl
    | 3 => rfl
  rw [e2, read_z hq hp]
  split
  · rfl
  · exact b0

theorem read_hi (hq : Reads r0 x3 Q) (hk : Reads r1 x4 K) (hp : ∀ h n d, (x6 (ix3 h n d) : EReal) = ((P h n.val d : ℝ) : EReal))
    (b : Fin 2) (h : Fin 24) (i c : Fin 3072) :
    val_main_v67 (F := Ideal) x3 x4 x6 r0 r1 (ix4 b h i c) = ((zz (Q b h) (P h) i (flr (Q b h) (K b h) i c + 1) : ℝ) : EReal) := by
  rw [val_main_v67_apply, val_main_cst_8_apply]
  show Ideal.ofBits .f32 0x00000000#32 + _ = _
  rw [b0, EReal.coe_zero, zero_add, ← pick _ (flr_le (Q b h) (K b h) i c) fun n => ((zz (Q b h) (P h) i (n + 1) : ℝ) : EReal)]
  refine Finset.sum_congr rfl fun n _ => ?_
  have e : idx_main_v67 (ix4 b h i c) n = ix5 b h i c n := funext fun a => by fin_cases a <;> rfl
  rw [e, val_main_v66_apply, read_at hq hk, val_main_call3_v1_apply, val_main_v65_apply, val_main_v64_apply, val_main_call3_v2_apply,
    val_main_call3_v0_apply, val_main_cst_7_apply]
  have e2 : idx_main_v64 (idx_main_v65 (idx_main_call3_v1 (ix5 b h i c n))) = ix4 b h i ⟨n.val + 1, by omega⟩ := funext fun a => by
    match a with
    | 0 => rfl
    | 1 => rfl
    | 2 => rfl
    | 3 => exact Fin.ext (by show 1 + n.val = n.val + 1; omega)
  rw [e2, read_z hq hp]
  split
  · rfl
  · exact b0

theorem read_lg (hq : Reads r0 x3 Q) (hk : Reads r1 x4 K) (hp : ∀ h n d, (x6 (ix3 h n d) : EReal) = ((P h n.val d : ℝ) : EReal))
    (b : Fin 2) (h : Fin 24) (i c : Fin 3072) :
    val_main_v73 (F := Ideal) x3 x4 x6 r0 r1 (ix4 b h i c) = ((lg (Q b h) (K b h) (P h) i c : ℝ) : EReal) := by
  rw [val_main_v73_apply, val_main_v72_apply, val_main_v71_apply, val_main_v70_apply, val_main_v69_apply, val_main_v68_apply,
    val_main_cst_9_apply, read_s hq hk, read_w hq hk, read_lo hq hk hp, read_hi hq hk hp]
  show _ + ((Ideal.ofBits .f32 0x3F800000#32 - _) * _ + _ * _) = _
  rw [b1, ← EReal.coe_sub, ← EReal.coe_mul, ← EReal.coe_mul, ← EReal.coe_add, ← EReal.coe_add]
  rfl

theorem read_a (hq : Reads r0 x3 Q) (hk : Reads r1 x4 K) (hp : ∀ h n d, (x6 (ix3 h n d) : EReal) = ((P h n.val d : ℝ) : EReal))
    (b : Fin 2) (h : Fin 24) (i c : Fin 3072) :
    val_main_v74 (F := Ideal) x3 x4 x6 r0 r1 (ix4 b h i c) = if c ≤ i then ((lg (Q b h) (K b h) (P h) i c : ℝ) : EReal) else ⊥ := by
  rw [val_main_v74_apply, mask4, read_lg hq hk hp, val_main_call4_v2_apply, val_main_call4_v0_apply, val_main_cst_10_apply]
  split
  · rfl
  · exact bbot

theorem max_read (x : FVec Ideal S2x24x3072x3072 .f32) (init : FVec Ideal S_ .f32) (b : Fin 2) (h : Fin 24) (i : Fin 3072) :
    Host.reduce (FloatOps.maximumf (F := Ideal)) x init reducesTo_S2x24x3072x3072_S2x24x3072_d3 h_S_ (ix3 b h i)
      = Finset.univ.fold max (init (Shape.Idx.first h_S_)) fun c : Fin 3072 => x (ix4 b h i c) := by
  pointwise []
  done

theorem fold_real (f : Fin 3072 → EReal) (i : Fin 3072) (g : Fin 3072 → ℝ) (hf : ∀ c, f c = if c ≤ i then ((g c : ℝ) : EReal) else ⊥) :
    ∃ M : ℝ, Finset.univ.fold max ⊥ f = (M : EReal) := by
  have hs : Finset.univ.fold max ⊥ f = Finset.univ.sup f := rfl
  rw [hs]
  have h1 : Finset.univ.sup f ≠ ⊥ := by
    intro h
    have : f i ≤ ⊥ := h ▸ Finset.le_sup (f := f) (Finset.mem_univ i)
    rw [hf, if_pos le_rfl] at this
    exact absurd (le_bot_iff.mp this) (EReal.coe_ne_bot _)
  have h2 : Finset.univ.sup f ≠ ⊤ := by
    refine ne_of_lt ((Finset.sup_lt_iff (by exact bot_lt_top)).mpr fun c _ => ?_)
    rw [hf]
    split
    · exact EReal.coe_lt_top _
    · exact bot_lt_top
  exact ⟨_, (EReal.coe_toReal h2 h1).symm⟩

theorem read_max (hq : Reads r0 x3 Q) (hk : Reads r1 x4 K) (hp : ∀ h n d, (x6 (ix3 h n d) : EReal) = ((P h n.val d : ℝ) : EReal))
    (b : Fin 2) (h : Fin 24) (i : Fin 3072) :
    ∃ M : ℝ, ∀ c, val_main_v79 (F := Ideal) x3 x4 x6 r0 r1 (ix4 b h i c) = (M : EReal) := by
  obtain ⟨M, hM⟩ := fold_real (fun c => val_main_v74 (F := Ideal) x3 x4 x6 r0 r1 (ix4 b h i c)) i _ (fun c => read_a hq hk hp b h i c)
  refine ⟨M, fun c => ?_⟩
  rw [val_main_v79_apply, val_main_v78_apply]
  have e : idx_main_v78 (idx_main_v79 (ix4 b h i c)) = ix3 b h i := funext fun a => by fin_cases a <;> rfl
  rw [e, val_main_v77_apply, val_main_v76_apply, val_main_cst_12_apply]
  unfold val_main_v75
  rw [max_read, val_main_cst_11_apply]
  show max (Ideal.ofBits .f32 0xFF800000#32) (Finset.univ.fold max (Ideal.ofBits .f32 0xFF800000#32) _) = _
  rw [bbot, hM]
  exact max_eq_right bot_le

theorem read_exp (hq : Reads r0 x3 Q) (hk : Reads r1 x4 K) (hp : ∀ h n d, (x6 (ix3 h n d) : EReal) = ((P h n.val d : ℝ) : EReal))
    (b : Fin 2) (h : Fin 24) (i : Fin 3072) : ∃ M : ℝ,
    (∀ c, val_main_v81 (F := Ideal) x3 x4 x6 r0 r1 (ix4 b h i c)
      = (((if c ≤ i then Real.exp (lg (Q b h) (K b h) (P h) i c - M) else 0 : ℝ)) : EReal)) := by
  obtain ⟨M, hM⟩ := read_max hq hk hp b h i
  refine ⟨M, fun c => ?_⟩
  rw [val_main_v81_apply, val_main_v80_apply, hM, read_a hq hk hp]
  show Ideal.exp (_ - _) = _
  split
  · rw [← EReal.coe_sub, Ideal.exp_coe]
  · rw [EReal.bot_sub, Ideal.exp_bot, EReal.coe_zero]

theorem softmax_real (g : Fin 3072 → ℝ) (i c : Fin 3072) (M : ℝ) :
    (if c ≤ i then Real.exp (g c - M) else 0) * (1 / ∑ c, if c ≤ i then Real.exp (g c - M) else 0)
      = (if c ≤ i then Real.exp (g c) else 0) / ∑ c, if c ≤ i then Real.exp (g c) else 0 := by
  have e : ∀ c, (if c ≤ i then Real.exp (g c - M) else 0) = (if c ≤ i then Real.exp (g c) else 0) * Real.exp (-M) := by
    intro c
    split
    · rw [sub_eq_add_neg, Real.exp_add]
    · rw [zero_mul]
  simp only [e]
  rw [← Finset.sum_mul]
  have := (Real.exp_pos (-M)).ne'
  generalize (∑ c, if c ≤ i then Real.exp (g c) else 0) = S
  by_cases hS : S = 0
  · subst hS; simp
  · field_simp

theorem sum_pos (g : Fin 3072 → ℝ) (i : Fin 3072) : 0 < ∑ c, if c ≤ i then Real.exp (g c) else 0 :=
  Finset.sum_pos' (fun c _ => by split; exacts [(Real.exp_pos _).le, le_rfl]) ⟨i, Finset.mem_univ _, by rw [if_pos le_rfl]; exact Real.exp_pos _⟩

theorem read_out {VE : Fin 2 → Fin 24 → Fin 3072 → Fin 96 → EReal} (hq : Reads r0 x3 Q) (hk : Reads r1 x4 K) (hv : ∀ b i h d, (r2 (ix4 b i h d) : EReal) * (x5 (ix4 b i h (grp d)) : EReal) = VE b h i d)
    (hp : ∀ h n d, (x6 (ix3 h n d) : EReal) = ((P h n.val d : ℝ) : EReal)) (b : Fin 2) (h : Fin 24) (i : Fin 3072) (d : Fin 96) :
    val_main_v89 (F := Ideal) x3 x4 x5 x6 r0 r1 r2 (ix4 b i h d) = out (Q b h) (K b h) (VE b h) (P h) i d := by
  obtain ⟨M, hM⟩ := read_exp hq hk hp b h i
  rw [val_main_v89_apply]
  show val_main_v88 (F := Ideal) x3 x4 x5 x6 r0 r1 r2 (ix4 b i h d) = _
  rw [val_main_v88_apply, val_main_v87_apply]
  unfold out
  refine Finset.sum_congr rfl fun c _ => ?_
  have el : lidx_main_v87 (idx_main_v88 (ix4 b i h d)) c = ix4 b h c d := funext fun a => by fin_cases a <;> rfl
  have er : ridx_main_v87 (idx_main_v88 (ix4 b i h d)) c = ix4 b h i c := funext fun a => by fin_cases a <;> rfl
  rw [el, er, read_v hv, val_main_v86_apply, val_main_v85_apply, hM, val_main_v84_apply, val_main_v83_apply]
  have e : idx_main_v83 (idx_main_v84 (ix4 b h i c)) = ix3 b h i := funext fun a => by fin_cases a <;> rfl
  have es : val_main_v82 (F := Ideal) x3 x4 x6 r0 r1 (ix3 b h i)
      = ((∑ c, if c ≤ i then Real.exp (lg (Q b h) (K b h) (P h) i c - M) else 0 : ℝ) : EReal) := by
    rw [val_main_v82_apply, val_main_cst_13_apply]
    show Ideal.ofBits .f32 0x00000000#32 + _ = _
    rw [b0, EReal.coe_zero, zero_add, coe_sum]
    refine Finset.sum_congr rfl fun c _ => ?_
    have e' : idx_main_v82 (ix3 b h i) c = ix4 b h i c := funext fun a => by fin_cases a <;> rfl
    rw [e', hM]
  rw [e, es]
  show _ * Ideal.div _ _ = _
  rw [Ideal.div_coe (sum_pos (fun c => lg (Q b h) (K b h) (P h) i c - M) i).ne', ← EReal.coe_mul,
    softmax_real (lg (Q b h) (K b h) (P h) i) i c M, mul_comm]
  rfl

end Cert.Proof.Ref

end
-- ==== Proof.Val.RefReg.lean ====
/-
  The reference's widening kernel: each of its results is the numbers of one argument's codes. With the readings of the
  operations after it, the reference's result is the attention of its arguments.
-/
module

public import proofs.«01_k».proof.Proof.Val.RefB
public import Idealize.ShloMosaic.Lib.StableHlo.Run
public import Idealize.ShloMosaic.Lib.Pipeline.Value

@[expose] public section

noncomputable section

namespace Cert.Proof.Ref

open Cert.ReferenceIdeal Cert.ReferenceIdeal.Gen Cert.ReferenceIdeal.Read Cert.Proof.Cope
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem hz : (![0, 0, 0, 0] : Fin 4 → Nat) = fun _ => 0 := funext fun a => by fin_cases a <;> rfl

theorem V_main_v0 (c : Dev nD) : V m c main_v0 = bitcastToFloat (F := Ideal) .fp8e4m3 (m ((c : Thread nD τ).loc main_arg0)) := by
  show after (List.flatten [hostOps0]) _ _ = _
  simp only [List.flatten_cons, List.flatten_nil, List.append_nil, hostOps0]
  after_results_simp

theorem V_main_v1 (c : Dev nD) : V m c main_v1 = bitcastToFloat (F := Ideal) .fp8e4m3 (m ((c : Thread nD τ).loc main_arg1)) := by
  show after (List.flatten [hostOps0]) _ _ = _
  simp only [List.flatten_cons, List.flatten_nil, List.append_nil, hostOps0]
  after_results_simp

theorem V_main_v2 (c : Dev nD) : V m c main_v2 = bitcastToFloat (F := Ideal) .fp8e4m3 (m ((c : Thread nD τ).loc main_arg2)) := by
  show after (List.flatten [hostOps0]) _ _ = _
  simp only [List.flatten_cons, List.flatten_nil, List.append_nil, hostOps0]
  after_results_simp

theorem emb0 (t : Fin grid0.N) (y : S2x3072x24x96.Idx) : (win0_0.rect t).emb y = y := funext fun a => Fin.ext (by
  rw [win0_0.rect_emb_val]
  show 0 * _ + (y a).val = (y a).val
  rw [Nat.zero_mul, Nat.zero_add])

theorem emb1 (t : Fin grid0.N) (y : S2x3072x24x96.Idx) : (win0_1.rect t).emb y = y := funext fun a => Fin.ext (by
  rw [win0_1.rect_emb_val]
  show 0 * _ + (y a).val = (y a).val
  rw [Nat.zero_mul, Nat.zero_add])

theorem emb2 (t : Fin grid0.N) (y : S2x3072x24x96.Idx) : (win0_2.rect t).emb y = y := funext fun a => Fin.ext (by
  rw [win0_2.rect_emb_val]
  show 0 * _ + (y a).val = (y a).val
  rw [Nat.zero_mul, Nat.zero_add])

theorem emb3 (t : Fin grid0.N) (y : S2x3072x24x96.Idx) : (win0_3.rect t).emb y = y := funext fun a => Fin.ext (by
  rw [win0_3.rect_emb_val]
  show 0 * _ + (y a).val = (y a).val
  rw [Nat.zero_mul, Nat.zero_add])

theorem emb4 (t : Fin grid0.N) (y : S2x3072x24x96.Idx) : (win0_4.rect t).emb y = y := funext fun a => Fin.ext (by
  rw [win0_4.rect_emb_val]
  show 0 * _ + (y a).val = (y a).val
  rw [Nat.zero_mul, Nat.zero_add])

theorem emb5 (t : Fin grid0.N) (y : S2x3072x24x96.Idx) : (win0_5.rect t).emb y = y := funext fun a => Fin.ext (by
  rw [win0_5.rect_emb_val]
  show 0 * _ + (y a).val = (y a).val
  rw [Nat.zero_mul, Nat.zero_add])

/-- The numbers of argument 0's codes. -/
def nums0 (c : Dev nD) : Vec Ideal S2x3072x24x96 .bf16 := fun y => num (m ((c : Thread nD τ).loc main_arg0) y)

theorem flushed0 (c : Dev nD) (t : Fin (cfg0).N) :
    (dats m 0 c).flushed 3 t = (win0_3.blk t).view.read (Elt Ideal) (nums0 m c) := by
  show ((cfg0).win 3).cut (grid0.coords t) ((dats m 0 c).after 3 t) = _
  rw [after0_3]
  unfold out0_3
  rw [View.canon_unit_zero hz, View.ld_unit_zero hz]
  unfold k0_pay1
  rw [shapeCast_self]
  funext y
  show V m c main_v0 ((win0_0.rect t).emb y) = nums0 m c ((win0_3.rect t).emb y)
  rw [emb0, emb3, V_main_v0]
  rfl

theorem cover0 (i : S2x3072x24x96.Idx) : ∃ t : Fin (cfg0).N, ((cfg0).win 3).flush t = true ∧ i ∈ (((cfg0).win 3).blk t).view.set := by
  refine ⟨t0_0, flush0_3 _, ?_⟩
  show i ∈ ((View.whole main_v3_0).slice (win0_3.rect t0_0)).set
  rw [View.set_slice_whole, Rect.mem_set_unit]
  intro a
  show 0 * _ ≤ (i a).val ∧ (i a).val < 0 * _ + S2x3072x24x96.size a
  rw [Nat.zero_mul, Nat.zero_add]
  exact ⟨Nat.zero_le _, (i a).isLt⟩

theorem reg0 (c : Dev nD) : Value.reg_main_v3_0 m c = nums0 m c :=
  (dats m 0 c).arrAt_eq_of_cover 3 (nums0 m c) (fun t _ => flushed0 m c t) cover0

/-- The numbers of argument 1's codes. -/
def nums1 (c : Dev nD) : Vec Ideal S2x3072x24x96 .bf16 := fun y => num (m ((c : Thread nD τ).loc main_arg1) y)

theorem flushed1 (c : Dev nD) (t : Fin (cfg0).N) :
    (dats m 0 c).flushed 4 t = (win0_4.blk t).view.read (Elt Ideal) (nums1 m c) := by
  show ((cfg0).win 4).cut (grid0.coords t) ((dats m 0 c).after 4 t) = _
  rw [after0_4]
  unfold out0_4
  rw [View.canon_unit_zero hz, View.ld_unit_zero hz]
  unfold k0_pay2
  rw [shapeCast_self]
  funext y
  show V m c main_v1 ((win0_1.rect t).emb y) = nums1 m c ((win0_4.rect t).emb y)
  rw [emb1, emb4, V_main_v1]
  rfl

theorem cover1 (i : S2x3072x24x96.Idx) : ∃ t : Fin (cfg0).N, ((cfg0).win 4).flush t = true ∧ i ∈ (((cfg0).win 4).blk t).view.set := by
  refine ⟨t0_0, flush0_4 _, ?_⟩
  show i ∈ ((View.whole main_v3_1).slice (win0_4.rect t0_0)).set
  rw [View.set_slice_whole, Rect.mem_set_unit]
  intro a
  show 0 * _ ≤ (i a).val ∧ (i a).val < 0 * _ + S2x3072x24x96.size a
  rw [Nat.zero_mul, Nat.zero_add]
  exact ⟨Nat.zero_le _, (i a).isLt⟩

theorem reg1 (c : Dev nD) : Value.reg_main_v3_1 m c = nums1 m c :=
  (dats m 0 c).arrAt_eq_of_cover 4 (nums1 m c) (fun t _ => flushed1 m c t) cover1

/-- The numbers of argument 2's codes. -/
def nums2 (c : Dev nD) : Vec Ideal S2x3072x24x96 .bf16 := fun y => num (m ((c : Thread nD τ).loc main_arg2) y)

theorem flushed2 (c : Dev nD) (t : Fin (cfg0).N) :
    (dats m 0 c).flushed 5 t = (win0_5.blk t).view.read (Elt Ideal) (nums2 m c) := by
  show ((cfg0).win 5).cut (grid0.coords t) ((dats m 0 c).after 5 t) = _
  rw [after0_5]
  unfold out0_5
  rw [View.canon_unit_zero hz, View.ld_unit_zero hz]
  unfold k0_pay3
  rw [shapeCast_self]
  funext y
  show V m c main_v2 ((win0_2.rect t).emb y) = nums2 m c ((win0_5.rect t).emb y)
  rw [emb2, emb5, V_main_v2]
  rfl

theorem cover2 (i : S2x3072x24x96.Idx) : ∃ t : Fin (cfg0).N, ((cfg0).win 5).flush t = true ∧ i ∈ (((cfg0).win 5).blk t).view.set := by
  refine ⟨t0_0, flush0_5 _, ?_⟩
  show i ∈ ((View.whole main_v3_2).slice (win0_5.rect t0_0)).set
  rw [View.set_slice_whole, Rect.mem_set_unit]
  intro a
  show 0 * _ ≤ (i a).val ∧ (i a).val < 0 * _ + S2x3072x24x96.size a
  rw [Nat.zero_mul, Nat.zero_add]
  exact ⟨Nat.zero_le _, (i a).isLt⟩

theorem reg2 (c : Dev nD) : Value.reg_main_v3_2 m c = nums2 m c :=
  (dats m 0 c).arrAt_eq_of_cover 5 (nums2 m c) (fun t _ => flushed2 m c t) cover2

/-- The reference program ends with the attention of its arguments, which it leaves unchanged. -/
theorem ref_out (c : Dev nD)
    (hT : Tame (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg6))) :
    val_main_v89 (F := Ideal) ((Value.exitV m c) (Proc.devRef .tc main_arg3)) ((Value.exitV m c) (Proc.devRef .tc main_arg4))
        ((Value.exitV m c) (Proc.devRef .tc main_arg5)) ((Value.exitV m c) (Proc.devRef .tc main_arg6))
        ((Value.exitV m c) (Proc.devRef .tc main_v3_0)) ((Value.exitV m c) (Proc.devRef .tc main_v3_1)) ((Value.exitV m c) (Proc.devRef .tc main_v3_2))
      = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [Value.exit_main_arg3, Value.exit_main_arg4, Value.exit_main_arg5, Value.exit_main_arg6, Value.exit_main_v3_0,
    Value.exit_main_v3_1, Value.exit_main_v3_2, reg0, reg1, reg2]
  funext y
  obtain ⟨b, i, h, d, rfl⟩ : ∃ b i h d, y = ix4 b i h d := ⟨y 0, y 1, y 2, y 3, funext fun a => by fin_cases a <;> rfl⟩
  refine (read_out (Q := head _ _) (K := head _ _) (VE := vals _ _) (P := emb (m ((c.tc : Thread nD τ).loc main_arg6)))
    (fun b i h d => head_mul hT.xq hT.sq b h i d) (fun b i h d => head_mul hT.xk hT.sk b h i d)
    (fun b i h d => rfl) (fun h n d => ?_) b h i d).trans ?_
  · unfold emb
    rw [dif_pos n.isLt]
    exact hT.p _
  · rfl

end Cert.Proof.Ref

end
-- ==== Proof.Val.Tame.lean ====
/-
  What the precondition says: every code of the queries and keys is a number, their scales and the embedding are finite.
-/
module

public import proofs.«01_k».proof.Defs
public import proofs.«01_k».proof.Proof.Gen.Pre_tame
public import proofs.«01_k».proof.Proof.Val.Arr
public import Idealize.ShloMosaic.Lib.ReduceAll

@[expose] public section

noncomputable section

namespace Cert.Proof.Cope

open Idealize.ShloMosaic Idealize.ShloMosaic.TcCoe
open Cert.Pre_tame (S_ S2x3072x24x96 S2x3072x24x3 S24x40x96)

instance : Subsingleton S_.Idx := ⟨fun a b => funext fun x => x.elim0⟩

theorem code_ne : ∀ b : BitVec 8, IntOp.cmpi .ne (IntOp.andi (BitVec.setWidth 32 b) 127#32) 127#32 = 1#1 →
    ¬((b.extractLsb' 3 4).toNat = 15 ∧ (b.extractLsb' 0 3).toNat = 7) := by decide +kernel

theorem num_real (b : BitVec 8) (h : IntOp.cmpi .ne (IntOp.andi (BitVec.setWidth 32 b) 127#32) 127#32 = 1#1) :
    num b = ((num b).toReal : EReal) := by
  have e : ∃ r : ℝ, num b = (r : EReal) := by
    show ∃ r : ℝ, Ideal.e4m3fn b = (r : EReal)
    unfold Ideal.e4m3fn
    dsimp only
    rw [if_neg (code_ne b h)]
    split
    · exact ⟨_, rfl⟩
    · exact ⟨_, rfl⟩
  obtain ⟨r, hr⟩ := e
  rw [hr, EReal.toReal_coe]

theorem top_bits : Ideal.ofBits .f32 0x7F800000#32 = (⊤ : EReal) := by
  simp [Ideal.ofBits, Ideal.ieee]; try norm_num

theorem fin_real (x : EReal) (h : Ideal.cmp .olt (max x (-x)) (Ideal.ofBits .f32 0x7F800000#32) = 1#1) : x = (x.toReal : EReal) := by
  rw [top_bits] at h
  have h' : max x (-x) < ⊤ := by
    by_contra hn
    unfold Ideal.cmp at h
    simp only [decide_eq_false hn] at h
    exact absurd h (by decide)
  refine (EReal.coe_toReal ?_ ?_).symm
  · rintro rfl; exact absurd h' (by simp)
  · rintro rfl; exact absurd h' (by simp)

def z_ : S_.Idx := fun x => x.elim0

theorem codes_of (x : IVec S2x3072x24x96 8) (hr : S2x3072x24x96.ReducesTo [0, 1, 2, 3] S_) (hu) (h : Host.reduce IntOp.andi (cmpi .ne (andi (extui 32 x Cert.Pre_tame.Gen.natLt_8_32)
    (broadcastInDim S2x3072x24x96 ![] Cert.Pre_tame.Gen.bcast_S_S2x3072x24x96 (constantI S_ 32 127#32)))
    (broadcastInDim S2x3072x24x96 ![] Cert.Pre_tame.Gen.bcast_S_S2x3072x24x96 (constantI S_ 32 127#32))) (constantI S_ 1 1#1) hr hu = fun _ => 1#1)
    (i : S2x3072x24x96.Idx) : num (x i) = ((num (x i)).toReal : EReal) :=
  num_real _ (Host.reduce_andi_all _ _ _ _ _ (congrFun h z_) i)

theorem reals_of {s : Shape} (x : FVec Ideal s .f32) (hb : S_.BroadcastsInDim s (![] : Fin 0 → Fin s.rank)) {ds : List (Fin s.rank)} (hr : s.ReducesTo ds S_) (hu)
    (h : Host.reduce IntOp.andi (cmpf .olt (Host.absf x) (broadcastInDim s ![] hb (constant S_ .f32 0x7F800000#32))) (constantI S_ 1 1#1) hr hu
      = fun _ => 1#1) (i : s.Idx) : x i = ((x i).toReal : EReal) :=
  fin_real _ (Host.reduce_andi_all _ _ _ _ _ (congrFun h z_) i)

/-- The precondition at a device makes every entry of the queries, the keys and the embedding a number. -/
theorem tame_of (xq xk xv : IVec S2x3072x24x96 8) (sq sk sv : FVec Ideal S2x3072x24x3 .f32) (p : FVec Ideal S24x40x96 .bf16)
    (h0 : (Cert.Pre_tame.fn (F := Ideal) xq xk xv sq sk sv p).1 = fun _ => 1#1)
    (h1 : (Cert.Pre_tame.fn (F := Ideal) xq xk xv sq sk sv p).2.1 = fun _ => 1#1)
    (h2 : (Cert.Pre_tame.fn (F := Ideal) xq xk xv sq sk sv p).2.2.1 = fun _ => 1#1)
    (h3 : (Cert.Pre_tame.fn (F := Ideal) xq xk xv sq sk sv p).2.2.2.1 = fun _ => 1#1)
    (h4 : (Cert.Pre_tame.fn (F := Ideal) xq xk xv sq sk sv p).2.2.2.2 = fun _ => 1#1) :
    Tame xq xk sq sk p := by
  unfold Cert.Pre_tame.fn Cert.Pre_tame.fn_part1 at h0 h1 h2 h3 h4
  dsimp only at h0 h1 h2 h3 h4
  exact ⟨codes_of xq _ _ h0, codes_of xk _ _ h1, reals_of sq _ _ _ h2, reals_of sk _ _ _ h3,
    reals_of (extf .f32 p Cert.Pre_tame.Gen.bitsLt_bf16_f32) _ _ _ h4⟩

end Cert.Proof.Cope

end
-- ==== Proof.Val.Algebraic.lean ====
/-
  The kernel program and the reference end with the same array: the attention of the arguments.
-/
module

public import proofs.«01_k».proof.Proof.Gen.Pre_tame
public import proofs.«01_k».proof.Proof.Gen.ReferenceIdeal.Run
public import proofs.«01_k».proof.Proof.Gen.ReferenceIdeal.Read
public import proofs.«01_k».proof.Proof.Val.Kern
public import proofs.«01_k».proof.Proof.Val.RefReg
public import proofs.«01_k».proof.Proof.Val.Tame

@[expose] public section

noncomputable section

namespace Cert.Proof

open Idealize.ShloMosaic Idealize.SL.Sem Cert.Proof.Cope

/-- Every entry of the kernel program's queries, keys and embedding is a number. -/
theorem tame_at (m : (ℓ : Loc Cert.KernelIdeal.nD Cert.KernelIdeal.τ Cert.KernelIdeal.sig) → Buf (Elt Ideal) ℓ)
    (h : Cert.Pre_KernelIdeal_tame m) (c : Dev Cert.KernelIdeal.nD) : KI.TameAt m c :=
  have ⟨h0, h1, h2, h3, h4⟩ := h c
  tame_of _ _ _ _ _ _ _ h0 h1 h2 h3 h4

/-- The reference, from memory that holds the same arguments, ends with the kernel program's result. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hT : KI.TameAt m c)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    whole (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = KI.res m c ∧
    Tame (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6)) := by
  obtain ⟨e0, e1, e2, e3, e4, e5, e6⟩ := e
  rw [e0, e1, e2, e3, e4, e5, e6]
  exact ⟨rfl, hT⟩

/-- The two programs at the ideal instance have one result. -/
theorem algebraic : Cert.algebraic_KernelIdeal_ReferenceIdeal_pre_tame := by
  intro m ρ m' ρ' hpre hagree
  refine ⟨fun c => KI.res m c, KI.kernel_run m ρ (tame_at m hpre),
    (θ_run Cert.ReferenceIdeal.defs _ _).mono (fun _ h c => ⟨(h c).1.trans ?_, (h c).2⟩)
      (Cert.ReferenceIdeal.Value.run (F := Ideal) m' ρ')⟩
  have hr := ref_eq m m' c (tame_at m hpre c) (hagree c)
  exact ((Cert.ReferenceIdeal.Read.val_main_v89_eq (Cert.ReferenceIdeal.Value.exitV m' c)).trans (Ref.ref_out m' c hr.2)).trans hr.1

end Cert.Proof

end
-- ==== Proof.lean ====
module

public import proofs.«01_k».proof.Defs
public import proofs.«01_k».proof.Proof.Gen.ReferenceIdeal.Frame
public import proofs.«01_k».proof.Proof.K.Frame
public import proofs.«01_k».proof.Proof.KI.Frame
public import proofs.«01_k».proof.Proof.Gen.Pre_tame
public import proofs.«01_k».proof.Proof.Val.Algebraic

@[expose] public section

noncomputable section

namespace Cert.Proof

open Idealize.ShloMosaic Idealize.SL.Sem

/-- The three named constants: each is its table's value at the ideal instance and its printed bits otherwise. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "score_log2e" .f32 0x3E16C740#32
      (((Real.sqrt 96)⁻¹ * (Real.log 2)⁻¹ : ℝ) : EReal) rfl⟩

/-- The claim. -/
theorem claim : Cert.Claim :=
  ⟨Cert.Kernel.Gen.facts, Cert.KernelIdeal.Gen.facts, Cert.ReferenceIdeal.Gen.facts, Cert.Pre_tame.Gen.facts,
    fun m ρ _ => K.frame m ρ, fun m ρ _ => KI.frame m ρ, fun m ρ _ => KI.frame m ρ,
    fun m ρ _ => Cert.ReferenceIdeal.Gen.frame m ρ,
    fun m ρ _ => Cert.ReferenceIdeal.Gen.frame m ρ, preserves, algebraic⟩

end Cert.Proof

end
